-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x128 : Shape := ⟨2, ![32768, 128]⟩
abbrev S256x128 : Shape := ⟨2, ![256, 128]⟩
abbrev S256x1 : Shape := ⟨2, ![256, 1]⟩
abbrev S16x2x8x128 : Shape := ⟨4, ![16, 2, 8, 128]⟩
abbrev S16x1x8x128 : Shape := ⟨4, ![16, 1, 8, 128]⟩
abbrev S16x8x128 : Shape := ⟨3, ![16, 8, 128]⟩
abbrev S16x1x1 : Shape := ⟨3, ![16, 1, 1]⟩
abbrev S8x2x16x128 : Shape := ⟨4, ![8, 2, 16, 128]⟩
abbrev S8x1x16x128 : Shape := ⟨4, ![8, 1, 16, 128]⟩
abbrev S8x16x128 : Shape := ⟨3, ![8, 16, 128]⟩
abbrev S8x1x1 : Shape := ⟨3, ![8, 1, 1]⟩
abbrev S4x2x32x128 : Shape := ⟨4, ![4, 2, 32, 128]⟩
abbrev S4x1x32x128 : Shape := ⟨4, ![4, 1, 32, 128]⟩
abbrev S4x32x128 : Shape := ⟨3, ![4, 32, 128]⟩
abbrev S4x1x1 : Shape := ⟨3, ![4, 1, 1]⟩
abbrev S2x2x64x128 : Shape := ⟨4, ![2, 2, 64, 128]⟩
abbrev S2x1x64x128 : Shape := ⟨4, ![2, 1, 64, 128]⟩
abbrev S2x64x128 : Shape := ⟨3, ![2, 64, 128]⟩
abbrev S2x1x1 : Shape := ⟨3, ![2, 1, 1]⟩
abbrev S1x2x128x128 : Shape := ⟨4, ![1, 2, 128, 128]⟩
abbrev S1x1x128x128 : Shape := ⟨4, ![1, 1, 128, 128]⟩
abbrev S1x128x128 : Shape := ⟨3, ![1, 128, 128]⟩
abbrev S1x1x1 : Shape := ⟨3, ![1, 1, 1]⟩
abbrev S512x128 : Shape := ⟨2, ![512, 128]⟩
abbrev S16384x128 : Shape := ⟨2, ![16384, 128]⟩
abbrev S8192x128 : Shape := ⟨2, ![8192, 128]⟩
abbrev S4096x128 : Shape := ⟨2, ![4096, 128]⟩
abbrev S2048x128 : Shape := ⟨2, ![2048, 128]⟩
abbrev S1024x128 : Shape := ⟨2, ![1024, 128]⟩
abbrev S8x128 : Shape := ⟨2, ![8, 128]⟩
abbrev S128x128 : Shape := ⟨2, ![128, 128]⟩
abbrev S_ : Shape := ⟨0, ![]⟩
abbrev S1x128 : Shape := ⟨2, ![1, 128]⟩
abbrev S128 : Shape := ⟨1, ![128]⟩
abbrev S256x128x128 : Shape := ⟨3, ![256, 128, 128]⟩

abbrev nBuf : Table → Nat
  | .hbm => 6
  | .local .tc .vmem => 9
  | .local .scVector .vmem => 3
  | _ => 0

abbrev bufTy : (tb : Table) → Fin (nBuf tb) → BufTy
  | .hbm, ⟨0, _⟩ => ⟨S32768x128, .f32⟩
  | .hbm, ⟨1, _⟩ => ⟨S32768x128, .f32⟩
  | .hbm, ⟨2, _⟩ => ⟨S32768x128, .i32⟩
  | .hbm, ⟨3, _⟩ => ⟨S256x128, .i32⟩
  | .hbm, ⟨4, _⟩ => ⟨S32768x128, .f32⟩
  | .hbm, ⟨5, _⟩ => ⟨S256x128x128, .f32⟩
  | .local .tc .vmem, ⟨0, _⟩ => ⟨S256x128, .f32⟩
  | .local .tc .vmem, ⟨1, _⟩ => ⟨S256x128, .f32⟩
  | .local .tc .vmem, ⟨2, _⟩ => ⟨S256x128, .f32⟩
  | .local .tc .vmem, ⟨3, _⟩ => ⟨S256x128, .f32⟩
  | .local .tc .vmem, ⟨4, _⟩ => ⟨S256x128, .i32⟩
  | .local .tc .vmem, ⟨5, _⟩ => ⟨S256x128, .i32⟩
  | .local .tc .vmem, ⟨6, _⟩ => ⟨S32768x128, .f32⟩
  | .local .tc .vmem, ⟨7, _⟩ => ⟨S32768x128, .i32⟩
  | .local .tc .vmem, ⟨8, _⟩ => ⟨S256x128, .i32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | _, _ => ⟨S32768x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | _ => false

abbrev sig : RefSig :=
  ofTables nBuf rfl bufTy 4 20 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg0_scv : Ref sig .scVector := ⟨.hbm, 0, rfl⟩
abbrev main_v1_scv : Ref sig .scVector := ⟨.hbm, 3, rfl⟩
abbrev main_v2_scv : Ref sig .scVector := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem2_0 : DmaSem sig := 8
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := .none

abbrev stage1_0 : Fin 1 → Memref sig .tc .vmem S32768x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S32768x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x128 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

def k2_off1 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 32 := Scalar.muli v1 c8_i32
  let c0_i32_80_r0 : BitVec 32 := 0#32
  ![v2.toNat, 0]
def k2_off2 (i : grid2.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_10 : BitVec 32 := 8#32
  let v12 : BitVec 32 := Scalar.muli v1 c8_i32_10
  let v13 : BitVec 32 := Scalar.addi v12 c0_i32_11
  let c128_i32 : BitVec 32 := 128#32
  let v14 : BitVec 32 := Scalar.muli v13 c128_i32
  let c0_i32_80_r1 : BitVec 32 := 0#32
  ![v14.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x128 : Shape := ⟨2, ![32768, 128]⟩
abbrev S256x128 : Shape := ⟨2, ![256, 128]⟩
abbrev S_ : Shape := ⟨0, ![]⟩
abbrev S256x128x1 : Shape := ⟨3, ![256, 128, 1]⟩
abbrev S256x128x128 : Shape := ⟨3, ![256, 128, 128]⟩

abbrev nBuf : Space → Nat
  | .hbm => 15
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32768x128, .f32⟩
  | .hbm, ⟨2, _⟩ => ⟨S32768x128, .i32⟩
  | .hbm, ⟨3, _⟩ => ⟨S32768x128, .f32⟩
  | .hbm, ⟨4, _⟩ => ⟨S32768x128, .i32⟩
  | .hbm, ⟨5, _⟩ => ⟨S256x128, .i32⟩
  | .hbm, ⟨6, _⟩ => ⟨S_, .i32⟩
  | .hbm, ⟨7, _⟩ => ⟨S256x128, .i32⟩
  | .hbm, ⟨8, _⟩ => ⟨S256x128, .i1⟩
  | .hbm, ⟨9, _⟩ => ⟨S_, .i32⟩
  | .hbm, ⟨10, _⟩ => ⟨S256x128, .i32⟩
  | .hbm, ⟨11, _⟩ => ⟨S256x128, .i32⟩
  | .hbm, ⟨12, _⟩ => ⟨S256x128, .i32⟩
  | .hbm, ⟨13, _⟩ => ⟨S256x128x1, .i32⟩
  | .hbm, ⟨14, _⟩ => ⟨S256x128x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Proof.Net.lean ====
/-
  The two TensorCore kernels' arithmetic, written by stage: the block sort and the merge as compositions of one
  compare-and-exchange stage, and the equations that the printed bodies load, apply these, and store.
-/
module

public import proofs.«01_k».proof.Proof.Gen.KernelIdeal
public import Idealize.ShloMosaic.Lib.Tactic

@[expose] public section

set_option Elab.async false

namespace Cert.Proof.Net

open Idealize.ShloMosaic Idealize.SL.Sem
open Cert.KernelIdeal

variable {F : FTy → Type} [FloatOps F]

/-- Keys and their row numbers, of one shape. -/
structure Pair (F : FTy → Type) (s : Shape) where
  v : FVec F s .f32
  i : IVec s 32

/-- A block of `n` rows of the 128 columns. -/
abbrev Rows (n : ℕ) : Shape := ⟨2, ![n, 128]⟩

/-- `n` groups of two halves of `d` rows. -/
abbrev Grp (n d : ℕ) : Shape := ⟨4, ![n, 2, d, 128]⟩

/-- One half of every group, the half's axis kept. -/
abbrev Hlf (n d : ℕ) : Shape := ⟨4, ![n, 1, d, 128]⟩

/-- One half of every group. -/
abbrev Flt (n d : ℕ) : Shape := ⟨3, ![n, d, 128]⟩

/-- One word per group. -/
abbrev Per (n : ℕ) : Shape := ⟨3, ![n, 1, 1]⟩

/-- The first entry comes before the second: its key is greater, or the keys agree and its row is lesser. -/
def before {s : Shape} (a b : FVec F s .f32) (ai bi : IVec s 32) : IVec s 1 :=
  ori (cmpf .ogt a b) (andi (cmpf .oeq a b) (cmpi .slt ai bi))

/-- The shape relations a stage by groups needs. -/
structure GrpFacts (n d : ℕ) : Prop where
  cut : (Rows 256).ShapeCasts (Grp n d)
  lo : (Grp n d).Slices ![0, 0, 0, 0] (Hlf n d)
  hi : (Grp n d).Slices ![0, 1, 0, 0] (Hlf n d)
  flat : (Hlf n d).ShapeCasts (Flt n d)
  self : (Per n).ShapeCasts (Per n)
  wide : (Per n).Broadcasts (Flt n d)
  back : (Flt n d).ShapeCasts (Hlf n d)
  join : Shape.Concatenates [Hlf n d, Hlf n d] (Grp n d) 1
  uncut : (Grp n d).ShapeCasts (Rows 256)

/-- A half of every group of an array of 256 rows. -/
def grpHalf {α : Type} (n d : ℕ) (h : GrpFacts n d) (x : (Rows 256).Idx → α) (hi : Bool) : (Flt n d).Idx → α :=
  match hi with
  | false => shapeCast (Flt n d) (extractStridedSlice (Hlf n d) ![0, 0, 0, 0] (shapeCast (Grp n d) x h.cut) h.lo) h.flat
  | true => shapeCast (Flt n d) (extractStridedSlice (Hlf n d) ![0, 1, 0, 0] (shapeCast (Grp n d) x h.cut) h.hi) h.flat

/-- The two halves of every group put back. -/
def grpJoin {α : Type} (n d : ℕ) (h : GrpFacts n d) (x y : (Flt n d).Idx → α) : (Rows 256).Idx → α :=
  shapeCast (Rows 256) (concatenate (Grp n d) 1 [⟨Hlf n d, shapeCast (Hlf n d) x h.back⟩, ⟨Hlf n d, shapeCast (Hlf n d) y h.back⟩]
    h.join) h.uncut

/-- One word per group over the group's entries. -/
def grpWide (n d : ℕ) (h : GrpFacts n d) (D : IVec (Per n) 1) : IVec (Flt n d) 1 :=
  broadcastTo (Flt n d) (shapeCast (Per n) D h.self) h.wide

/-- The compare-and-exchange stage at distance `d`, by groups of `2 d` rows. -/
def grpStage (n d : ℕ) (h : GrpFacts n d) (D : IVec (Per n) 1) (p : Pair F (Rows 256)) : Pair F (Rows 256) where
  v := grpJoin n d h
    (select (grpWide n d h D)
      (select (before (grpHalf n d h p.v false) (grpHalf n d h p.v true) (grpHalf n d h p.i false) (grpHalf n d h p.i true))
        (grpHalf n d h p.v false) (grpHalf n d h p.v true))
      (select (before (grpHalf n d h p.v false) (grpHalf n d h p.v true) (grpHalf n d h p.i false) (grpHalf n d h p.i true))
        (grpHalf n d h p.v true) (grpHalf n d h p.v false)))
    (select (grpWide n d h D)
      (select (before (grpHalf n d h p.v false) (grpHalf n d h p.v true) (grpHalf n d h p.i false) (grpHalf n d h p.i true))
        (grpHalf n d h p.v true) (grpHalf n d h p.v false))
      (select (before (grpHalf n d h p.v false) (grpHalf n d h p.v true) (grpHalf n d h p.i false) (grpHalf n d h p.i true))
        (grpHalf n d h p.v false) (grpHalf n d h p.v true)))
  i := grpJoin n d h
    (select (grpWide n d h D)
      (select (before (grpHalf n d h p.v false) (grpHalf n d h p.v true) (grpHalf n d h p.i false) (grpHalf n d h p.i true))
        (grpHalf n d h p.i false) (grpHalf n d h p.i true))
      (select (before (grpHalf n d h p.v false) (grpHalf n d h p.v true) (grpHalf n d h p.i false) (grpHalf n d h p.i true))
        (grpHalf n d h p.i true) (grpHalf n d h p.i false)))
    (select (grpWide n d h D)
      (select (before (grpHalf n d h p.v false) (grpHalf n d h p.v true) (grpHalf n d h p.i false) (grpHalf n d h p.i true))
        (grpHalf n d h p.i true) (grpHalf n d h p.i false))
      (select (before (grpHalf n d h p.v false) (grpHalf n d h p.v true) (grpHalf n d h p.i false) (grpHalf n d h p.i true))
        (grpHalf n d h p.i false) (grpHalf n d h p.i true)))

/-- A block may be rotated by rows. -/
theorem rot256 : (Rows 256).Rotates 0 none := by decide
/-- One word per row. -/
abbrev Col : Shape := ⟨2, ![256, 1]⟩
/-- Rows of a block can be numbered. -/
theorem colIota : Col.Iotas .tc 32 [0] := by decide
/-- A mask keeps its shape. -/
theorem colSelf : Col.ShapeCasts Col := by decide
/-- A mask is repeated along a row. -/
theorem colWide : Col.Broadcasts (Rows 256) := by decide
/-- A block keeps its shape. -/
theorem rowsWide : (Rows 256).Broadcasts (Rows 256) := by decide

/-- Bit `sh` of every row's number is clear. -/
def lowRows (sh : BitVec 32) : IVec Col 1 :=
  cmpi .eq (andi (shrsi (iota .tc Col 32 [0] colIota) (broadcast Col sh)) (broadcast Col 1#32)) (broadcast Col 0#32)

/-- Every row's partner at distance `up` (`dn = 256 - up`), read by two rotations. -/
def rollTo {α : Type} (dn up sh : BitVec 32) (x : (Rows 256).Idx → α) : (Rows 256).Idx → α :=
  select (broadcastTo (Rows 256) (shapeCast Col (lowRows sh) colSelf) colWide)
    (dynamicRotate 0 dn none x rot256) (dynamicRotate 0 up none x rot256)

/-- Whether a row keeps its own entry. -/
def rollKeep (dn up sh : BitVec 32) (D : IVec Col 1) (p : Pair F (Rows 256)) : IVec (Rows 256) 1 :=
  xori (xori (broadcastTo (Rows 256) (broadcastTo (Rows 256) (xori (xori (lowRows sh) D) (constantI Col 1 1#1)) colWide) rowsWide)
    (before p.v (rollTo dn up sh p.v) p.i (rollTo dn up sh p.i))) (constantI (Rows 256) 1 1#1)

/-- The compare-and-exchange stage at distance `up`, by rotations. -/
def rollStage (dn up sh : BitVec 32) (D : IVec Col 1) (p : Pair F (Rows 256)) : Pair F (Rows 256) where
  v := select (rollKeep dn up sh D p) p.v (rollTo dn up sh p.v)
  i := select (rollKeep dn up sh D p) p.i (rollTo dn up sh p.i)

/-- One group of 256 rows. -/
theorem facts1 : GrpFacts 1 128 := by constructor <;> decide
/-- Two groups of 128 rows. -/
theorem facts2 : GrpFacts 2 64 := by constructor <;> decide
/-- Four groups of 64 rows. -/
theorem facts4 : GrpFacts 4 32 := by constructor <;> decide
/-- Eight groups of 32 rows. -/
theorem facts8 : GrpFacts 8 16 := by constructor <;> decide
/-- Sixteen groups of 16 rows. -/
theorem facts16 : GrpFacts 16 8 := by constructor <;> decide

/-- The eight stages that merge a bitonic block, all in the direction `b`. -/
def mergeBlock (b : BitVec 1) (p : Pair F (Rows 256)) : Pair F (Rows 256) :=
  rollStage 255#32 1#32 0#32 (broadcast Col b) <|
  rollStage 254#32 2#32 1#32 (broadcast Col b) <|
  rollStage 252#32 4#32 2#32 (broadcast Col b) <|
  grpStage 16 8 facts16 (broadcast (Per 16) b) <|
  grpStage 8 16 facts8 (broadcast (Per 8) b) <|
  grpStage 4 32 facts4 (broadcast (Per 4) b) <|
  grpStage 2 64 facts2 (broadcast (Per 2) b) <|
  grpStage 1 128 facts1 (broadcast (Per 1) b) p

/-- The first 256 of 512 rows. -/
theorem upper : (Rows 512).Slices ![0, 0] (Rows 256) := by decide
/-- The last 256 of 512 rows. -/
theorem lower : (Rows 512).Slices ![256, 0] (Rows 256) := by decide

/-- Row by row, the earlier of the entries of the first 256 rows and of the last. -/
def fold (p : Pair F (Rows 512)) : Pair F (Rows 256) where
  v := select (before (extractStridedSlice (Rows 256) ![0, 0] p.v upper) (extractStridedSlice (Rows 256) ![256, 0] p.v lower)
      (extractStridedSlice (Rows 256) ![0, 0] p.i upper) (extractStridedSlice (Rows 256) ![256, 0] p.i lower))
    (extractStridedSlice (Rows 256) ![0, 0] p.v upper) (extractStridedSlice (Rows 256) ![256, 0] p.v lower)
  i := select (before (extractStridedSlice (Rows 256) ![0, 0] p.v upper) (extractStridedSlice (Rows 256) ![256, 0] p.v lower)
      (extractStridedSlice (Rows 256) ![0, 0] p.i upper) (extractStridedSlice (Rows 256) ![256, 0] p.i lower))
    (extractStridedSlice (Rows 256) ![0, 0] p.i upper) (extractStridedSlice (Rows 256) ![256, 0] p.i lower)

/-- The merge of 512 rows into their 256 first. -/
def half (b : BitVec 1) (p : Pair F (Rows 512)) : Pair F (Rows 256) := mergeBlock b (fold p)

/-- Piece `k` of `512 n` rows lies inside. -/
theorem pieceFacts (n k : ℕ) (hn : 0 < n) : (Rows (512 * n)).Slices ![512 * (k % n), 0] (Rows 512) := by
  refine ⟨rfl, fun a => ?_⟩
  have := Nat.mod_lt k hn
  match a with
  | 0 => show 512 * (k % n) + 512 ≤ 512 * n; omega
  | 1 => show 0 + 128 ≤ 128; omega

/-- Piece `k` of `512 n` rows. -/
def piece (n : ℕ) (hn : 0 < n) (p : Pair F (Rows (512 * n))) (k : ℕ) : Pair F (Rows 512) where
  v := extractStridedSlice (Rows 512) ![512 * (k % n), 0] p.v (pieceFacts n k hn)
  i := extractStridedSlice (Rows 512) ![512 * (k % n), 0] p.i (pieceFacts n k hn)

/-- The list of the vectors `f k, f (k + 1), …, f (k + m - 1)`, each with its shape. -/
def listed {α : Type} {s : Shape} (f : ℕ → s.Idx → α) : ℕ → ℕ → List ((s : Shape) × (s.Idx → α))
  | 0, _ => []
  | m + 1, k => ⟨s, f k⟩ :: listed f m (k + 1)

/-- The listed vectors have one shape. -/
theorem listed_shapes {α : Type} {s : Shape} (f : ℕ → s.Idx → α) (m k : ℕ) :
    (listed f m k).map (·.1) = List.replicate m s := by
  induction m generalizing k with
  | zero => rfl
  | succ m ih => simp [listed, ih, List.replicate_succ]

/-- Blocks of 256 rows join to an array. -/
theorem joinFacts {α : Type} (n : ℕ) (hn : 2 ≤ n) (f : ℕ → (Rows 256).Idx → α) :
    Shape.Concatenates ((listed f n 0).map (·.1)) (Rows (256 * n)) 0 := by
  rw [listed_shapes]
  refine ⟨by simpa using hn, fun s hs => ?_, ?_⟩
  · obtain rfl := List.eq_of_mem_replicate hs
    refine ⟨rfl, fun b hb => ?_⟩
    match b with
    | 0 => exact absurd rfl hb
    | 1 => rfl
  · simp [List.map_replicate, List.sum_replicate, Nat.mul_comm]

/-- The direction of merge `k` of a level: every other one ascends. -/
def dirBit (k : ℕ) : BitVec 1 := BitVec.ofNat 1 ((k + 1) % 2)

/-- One level of the merge: every 512 rows into 256. -/
def level (n : ℕ) (hn : 2 ≤ n) (p : Pair F (Rows (512 * n))) : Pair F (Rows (256 * n)) where
  v := concatenate (Rows (256 * n)) 0 (listed (fun k => (half (dirBit k) (piece n (by omega) p k)).v) n 0) (joinFacts n hn _)
  i := concatenate (Rows (256 * n)) 0 (listed (fun k => (half (dirBit k) (piece n (by omega) p k)).i) n 0) (joinFacts n hn _)

/-- The whole merge: 128 blocks of 256 rows into one. -/
def mergeAll (p : Pair F (Rows 32768)) : Pair F (Rows 256) :=
  half 1#1 (level 2 (by decide) (level 4 (by decide) (level 8 (by decide) (level 16 (by decide) (level 32 (by decide)
    (level 64 (by decide) p))))))

/-- The whole array keeps its shape. -/
theorem whole32768 : (Rows 32768).ShapeCasts (Rows 32768) := by decide

set_option maxRecDepth 100000 in
/-- The merge kernel loads the keys and the rows, merges, and stores the first 256 rows' numbers. -/
theorem merge_body (arg0 : Memref sig .tc .vmem S32768x128 .f32) (harg0 : arg0.IsWhole)
    (arg1 : Memref sig .tc .vmem S32768x128 .i32) (harg1 : arg1.IsWhole)
    (arg2 : Memref sig .tc .vmem S256x128 .i32) (harg2 : arg2.IsWhole) :
    cc1__merge_tail_body (F := F) arg0 harg0 arg1 harg1 arg2 harg2 = (do
      let v0 : Vec F S32768x128 .f32 ← Prog.lift (.load arg0 (Rect.unit (s := S32768x128) ![0, 0] S32768x128.size Facts₀.inb_S32768x128_S32768x128_0_0).toLoadRect (View.loadsAt_vmem Facts₀.h_S32768x128))
      let v2 : Vec F S32768x128 .i32 ← Prog.lift (.load arg1 (Rect.unit (s := S32768x128) ![0, 0] S32768x128.size Facts₀.inb_S32768x128_S32768x128_0_0).toLoadRect (View.loadsAt_vmem Facts₀.h_S32768x128))
      let _ : Vec F S256x128 .i32 ← Prog.lift (.load arg2 (Rect.unit (s := S256x128) ![0, 0] S256x128.size Facts₀.inb_S256x128_S256x128_0_0).toLoadRect (View.loadsAt_vmem Facts₀.h_S256x128))
      Prog.lift (.store arg2 (Rect.unit (s := S256x128) ![0, 0] S256x128.size Facts₀.inb_S256x128_S256x128_0_0)
        (mergeAll (F := F) ⟨shapeCast S32768x128 v0 Facts₀.shapeCasts_S32768x128_S32768x128, shapeCast S32768x128 v2 Facts₀.shapeCasts_S32768x128_S32768x128⟩).i
        Finset.univ (View.stores_vmem_bits_univ Facts₀.h_S256x128 rfl) (.inl rfl))
      pure ⟨⟩) := by
  sl_kernel_rfl

/-- The elements of a block can be numbered by rows. -/
theorem rowsIota : (Rows 256).Iotas .tc 32 [0] := by decide
/-- Groups can be numbered. -/
theorem perIota (n : ℕ) : (Per n).Iotas .tc 32 [0] :=
  ⟨List.nodup_singleton _, fun _ => ⟨Or.inr rfl, (by decide : 2 ≤ 3)⟩, fun h => absurd rfl h⟩

/-- Bit `s` of every row's number in the whole array is clear; the block starts at row `b`. -/
def dirRows (b s : BitVec 32) : IVec Col 1 :=
  cmpi .eq (andi (shrsi (addi (iota .tc Col 32 [0] colIota) (broadcast Col b)) (broadcast Col s)) (broadcast Col 1#32)) (broadcast Col 0#32)

/-- Bit `s` of the number of every group's first row is clear, the groups of `2 d` rows. -/
def dirGrps (n : ℕ) (b d s : BitVec 32) : IVec (Per n) 1 :=
  cmpi .eq (andi (shrsi (addi (muli (muli (iota .tc (Per n) 32 [0] (perIota n)) (broadcast (Per n) 2#32)) (broadcast (Per n) d))
    (broadcast (Per n) b)) (broadcast (Per n) s)) (broadcast (Per n) 1#32)) (broadcast (Per n) 0#32)

/-- The sort's stage at distance `2 ^ t` in its round `s`. -/
def sortStage (b s : BitVec 32) (t : ℕ) (p : Pair F (Rows 256)) : Pair F (Rows 256) :=
  match t with
  | 0 => rollStage 255#32 1#32 0#32 (dirRows b s) p
  | 1 => rollStage 254#32 2#32 1#32 (dirRows b s) p
  | 2 => rollStage 252#32 4#32 2#32 (dirRows b s) p
  | 3 => grpStage 16 8 facts16 (dirGrps 16 b 8#32 s) p
  | 4 => grpStage 8 16 facts8 (dirGrps 8 b 16#32 s) p
  | 5 => grpStage 4 32 facts4 (dirGrps 4 b 32#32 s) p
  | 6 => grpStage 2 64 facts2 (dirGrps 2 b 64#32 s) p
  | _ => grpStage 1 128 facts1 (dirGrps 1 b 128#32 s) p

/-- The stages at distances `2 ^ (t - 1), …, 1` of round `s`. -/
def sortRound (b s : BitVec 32) : ℕ → Pair F (Rows 256) → Pair F (Rows 256)
  | 0, p => p
  | t + 1, p => sortRound b s t (sortStage b s t p)

/-- The rounds `1, …, t`. -/
def sortRounds (b : BitVec 32) : ℕ → Pair F (Rows 256) → Pair F (Rows 256)
  | 0, p => p
  | t + 1, p => sortRound b (BitVec.ofNat 32 (t + 1)) (t + 1) (sortRounds b t p)

/-- A block of keys beside its rows' numbers in the whole array. -/
def numbered (b : BitVec 32) (v : FVec F (Rows 256) .f32) : Pair F (Rows 256) :=
  ⟨v, addi (iota .tc (Rows 256) 32 [0] rowsIota) (broadcast (Rows 256) b)⟩

/-- The whole sort of a block. -/
def sortBlock (b : BitVec 32) (v : FVec F (Rows 256) .f32) : Pair F (Rows 256) := sortRounds b 8 (numbered b v)

set_option maxRecDepth 100000 in
/-- The sort kernel loads a block of keys and stores it sorted, with its rows' numbers. -/
theorem sort_body (i : grid0.Coords) (arg1 : Memref sig .tc .vmem S256x128 .f32) (harg1 : arg1.IsWhole)
    (arg2 : Memref sig .tc .vmem S256x128 .f32) (harg2 : arg2.IsWhole)
    (arg3 : Memref sig .tc .vmem S256x128 .i32) (harg3 : arg3.IsWhole) :
    cc0__sort_body (F := F) i arg1 harg1 arg2 harg2 arg3 harg3 = (do
      let v0 : Vec F S256x128 .f32 ← Prog.lift (.load arg1 (Rect.unit (s := S256x128) ![0, 0] S256x128.size Facts₀.inb_S256x128_S256x128_0_0).toLoadRect (View.loadsAt_vmem Facts₀.h_S256x128))
      let _ : Vec F S256x128 .f32 ← Prog.lift (.load arg2 (Rect.unit (s := S256x128) ![0, 0] S256x128.size Facts₀.inb_S256x128_S256x128_0_0).toLoadRect (View.loadsAt_vmem Facts₀.h_S256x128))
      Prog.lift (.store arg2 (Rect.unit (s := S256x128) ![0, 0] S256x128.size Facts₀.inb_S256x128_S256x128_0_0)
        (sortBlock (F := F) (Scalar.muli (BitVec.ofNat 32 (i 0).val) 256#32) v0).v
        Finset.univ (View.stores_vmem_bits_univ Facts₀.h_S256x128 rfl) (.inl rfl))
      let _ : Vec F S256x128 .i32 ← Prog.lift (.load arg3 (Rect.unit (s := S256x128) ![0, 0] S256x128.size Facts₀.inb_S256x128_S256x128_0_0).toLoadRect (View.loadsAt_vmem Facts₀.h_S256x128))
      Prog.lift (.store arg3 (Rect.unit (s := S256x128) ![0, 0] S256x128.size Facts₀.inb_S256x128_S256x128_0_0)
        (sortBlock (F := F) (Scalar.muli (BitVec.ofNat 32 (i 0).val) 256#32) v0).i
        Finset.univ (View.stores_vmem_bits_univ Facts₀.h_S256x128 rfl) (.inl rfl))
      pure ⟨⟩) := by
  sl_kernel_rfl

end Cert.Proof.Net
-- ==== Proof.Stage.lean ====
/-
  The compare-and-exchange stages read entry by entry: what a stage by groups, a stage by rotations, a fold, a piece and
  a level hold at a row and a column, for every float semantics.
-/
module

public import proofs.«01_k».proof.Proof.Net
public import Idealize.ShloMosaic.Lib.ValueIdxCore
public import Idealize.ShloMosaic.Lib.Pipeline.Value
public import Idealize.ShloMosaic.Lib.KernelVsHost
public import Idealize.ShloMosaic.Lib.SortNet.Bitonic

@[expose] public section

noncomputable section

namespace Cert.Proof.Net

open Idealize.ShloMosaic Idealize.ShloMosaic.ValueIdx
open Idealize.ShloMosaic.SortNet (partner partner_val partner_val_of_clear)

variable {F : FTy → Type} [FloatOps F]

/-- A key beside its row number. -/
abbrev Ent (F : FTy → Type) : Type := F .f32 × BitVec 32

/-- The entry at a row and a column. -/
def Pair.ent {n : ℕ} (p : Pair F (Rows n)) (r : Fin n) (c : Fin 128) : Ent F := (p.v (ix2 r c), p.i (ix2 r c))

/-- One entry comes before another. -/
def ahead (a b : Ent F) : BitVec 1 :=
  IntOp.ori (FloatOps.cmpf .ogt a.1 b.1) (IntOp.andi (FloatOps.cmpf .oeq a.1 b.1) (IntOp.cmpi .slt a.2 b.2))

/-- The first entry or the second, by a bit. -/
def pick (b : BitVec 1) (x y : Ent F) : Ent F := (Scalar.select b x.1 y.1, Scalar.select b x.2 y.2)

/-- A choice by a bit, as a case distinction. -/
theorem pick_eq (b : BitVec 1) (x y : Ent F) : pick b x y = if b = 1#1 then x else y := by
  unfold pick
  by_cases h : b = 1#1
  · subst h; rfl
  · rw [eq_zero_of_ne_one h]; rfl

/-- A choice is one of the two. -/
theorem pick_mem (b : BitVec 1) (x y : Ent F) : pick b x y = x ∨ pick b x y = y := by
  rw [pick_eq]; split
  · exact Or.inl rfl
  · exact Or.inr rfl

/-! ## Stages by groups -/

/-- Row `o` of half `hi` of group `g`. -/
def grpRow {n d : ℕ} (hnd : n * (2 * d) = 256) (g : Fin n) (hi : Bool) (o : Fin d) : Fin 256 :=
  ⟨(g.val * 2 + hi.toNat) * d + o.val, by
    have h1 : g.val * 2 + hi.toNat + 1 ≤ n * 2 := by have := g.isLt; cases hi <;> simp <;> omega
    have h2 := Nat.mul_le_mul_right d h1
    have h3 := o.isLt
    rw [Nat.add_mul, Nat.one_mul] at h2
    rw [← Nat.mul_assoc] at hnd
    omega⟩

/-- A half's axis dropped, at an entry. -/
theorem flat_at {α : Type} {n d : ℕ} (h : GrpFacts n d) (x : (Hlf n d).Idx → α) (g : Fin n) (o : Fin d) (c : Fin 128) :
    shapeCast (Flt n d) x h.flat (ix3 g o c) = x (ix4 g (0 : Fin 1) o c) := by
  refine shapeCast_apply _ _ _ _ ?_
  rw [Shape.rowMajor_val_four, Shape.rowMajor_val_three]
  show ((g.val * 1 + 0) * d + o.val) * 128 + c.val = (g.val * d + o.val) * 128 + c.val
  rw [Nat.mul_one, Nat.add_zero]

/-- A half's axis put back, at an entry. -/
theorem back_at {α : Type} {n d : ℕ} (h : GrpFacts n d) (x : (Flt n d).Idx → α) (g : Fin n) (o : Fin d) (c : Fin 128) :
    shapeCast (Hlf n d) x h.back (ix4 g (0 : Fin 1) o c) = x (ix3 g o c) := by
  refine shapeCast_apply _ _ _ _ ?_
  rw [Shape.rowMajor_val_four, Shape.rowMajor_val_three]
  show (g.val * d + o.val) * 128 + c.val = ((g.val * 1 + 0) * d + o.val) * 128 + c.val
  rw [Nat.mul_one, Nat.add_zero]

/-- The half's number as a coordinate. -/
def halfIx (hi : Bool) : Fin 2 := if hi then 1 else 0

/-- Rows cut into groups, at an entry. -/
theorem cut_at {α : Type} {n d : ℕ} (h : GrpFacts n d) (hnd : n * (2 * d) = 256) (x : (Rows 256).Idx → α) (hi : Bool)
    (g : Fin n) (o : Fin d) (c : Fin 128) :
    shapeCast (Grp n d) x h.cut (ix4 g (halfIx hi) o c) = x (ix2 (grpRow hnd g hi o) c) := by
  refine shapeCast_apply _ _ _ _ ?_
  rw [Shape.rowMajor_val_two, Shape.rowMajor_val_four]
  show ((g.val * 2 + hi.toNat) * d + o.val) * 128 + c.val = ((g.val * 2 + (halfIx hi).val) * d + o.val) * 128 + c.val
  cases hi
  · rfl
  · rfl

/-- Groups put back as rows, at an entry. -/
theorem uncut_at {α : Type} {n d : ℕ} (h : GrpFacts n d) (hnd : n * (2 * d) = 256) (x : (Grp n d).Idx → α) (hi : Bool)
    (g : Fin n) (o : Fin d) (c : Fin 128) :
    shapeCast (Rows 256) x h.uncut (ix2 (grpRow hnd g hi o) c) = x (ix4 g (halfIx hi) o c) := by
  refine shapeCast_apply _ _ _ _ ?_
  rw [Shape.rowMajor_val_two, Shape.rowMajor_val_four]
  show ((g.val * 2 + (halfIx hi).val) * d + o.val) * 128 + c.val = ((g.val * 2 + hi.toNat) * d + o.val) * 128 + c.val
  cases hi
  · rfl
  · rfl

/-- The first half of every group, at an entry. -/
theorem sliceLo_at {α : Type} {n d : ℕ} (h : GrpFacts n d) (x : (Grp n d).Idx → α) (g : Fin n) (o : Fin d) (c : Fin 128) :
    extractStridedSlice (Hlf n d) ![0, 0, 0, 0] x h.lo (ix4 g (0 : Fin 1) o c) = x (ix4 g (0 : Fin 2) o c) := by
  refine extractStridedSlice_apply _ _ _ _ _ fun a => ?_
  match a with
  | 0 => exact (Nat.zero_add g.val).symm
  | 1 => show 0 = 0 + 0; rfl
  | 2 => exact (Nat.zero_add o.val).symm
  | 3 => exact (Nat.zero_add c.val).symm

/-- The second half of every group, at an entry. -/
theorem sliceHi_at {α : Type} {n d : ℕ} (h : GrpFacts n d) (x : (Grp n d).Idx → α) (g : Fin n) (o : Fin d) (c : Fin 128) :
    extractStridedSlice (Hlf n d) ![0, 1, 0, 0] x h.hi (ix4 g (0 : Fin 1) o c) = x (ix4 g (1 : Fin 2) o c) := by
  refine extractStridedSlice_apply _ _ _ _ _ fun a => ?_
  match a with
  | 0 => exact (Nat.zero_add g.val).symm
  | 1 => show 1 = 1 + 0; rfl
  | 2 => exact (Nat.zero_add o.val).symm
  | 3 => exact (Nat.zero_add c.val).symm

/-- A half of every group, at an entry. -/
theorem grpHalf_at {α : Type} {n d : ℕ} (h : GrpFacts n d) (hnd : n * (2 * d) = 256) (x : (Rows 256).Idx → α) (hi : Bool)
    (g : Fin n) (o : Fin d) (c : Fin 128) : grpHalf n d h x hi (ix3 g o c) = x (ix2 (grpRow hnd g hi o) c) := by
  cases hi
  · exact (flat_at h _ g o c).trans ((sliceLo_at h _ g o c).trans (cut_at h hnd x false g o c))
  · exact (flat_at h _ g o c).trans ((sliceHi_at h _ g o c).trans (cut_at h hnd x true g o c))

/-- The two halves laid side by side, at an entry of the first. -/
theorem joinLo_at {α : Type} {n d : ℕ} (h : GrpFacts n d) (x y : (Hlf n d).Idx → α) (g : Fin n) (o : Fin d) (c : Fin 128) :
    concatenate (Grp n d) 1 [⟨Hlf n d, x⟩, ⟨Hlf n d, y⟩] h.join (ix4 g (0 : Fin 2) o c) = x (ix4 g (0 : Fin 1) o c) := by
  refine concatenate_pair_apply_left (t := Grp n d) (s₁ := Hlf n d) (s₂ := Hlf n d) 1 x y h.join _ rfl _ fun a => ?_
  match a with
  | 0 => rfl
  | 1 => rfl
  | 2 => rfl
  | 3 => rfl

/-- The two halves laid side by side, at an entry of the second. -/
theorem joinHi_at {α : Type} {n d : ℕ} (h : GrpFacts n d) (x y : (Hlf n d).Idx → α) (g : Fin n) (o : Fin d) (c : Fin 128) :
    concatenate (Grp n d) 1 [⟨Hlf n d, x⟩, ⟨Hlf n d, y⟩] h.join (ix4 g (1 : Fin 2) o c) = y (ix4 g (0 : Fin 1) o c) := by
  refine concatenate_pair_apply_right (t := Grp n d) (s₁ := Hlf n d) (s₂ := Hlf n d) 1 x y h.join _ rfl rfl _ (fun a ha => ?_) rfl
  match a with
  | 0 => rfl
  | 1 => exact absurd rfl ha
  | 2 => rfl
  | 3 => rfl

/-- The halves put back, at an entry. -/
theorem grpJoin_at {α : Type} {n d : ℕ} (h : GrpFacts n d) (hnd : n * (2 * d) = 256) (x y : (Flt n d).Idx → α) (hi : Bool)
    (g : Fin n) (o : Fin d) (c : Fin 128) :
    grpJoin n d h x y (ix2 (grpRow hnd g hi o) c) = if hi then y (ix3 g o c) else x (ix3 g o c) := by
  cases hi
  · exact (uncut_at h hnd _ false g o c).trans ((joinLo_at h _ _ g o c).trans (back_at h x g o c))
  · exact (uncut_at h hnd _ true g o c).trans ((joinHi_at h _ _ g o c).trans (back_at h y g o c))

/-- One word per group, at an entry of the group. -/
theorem grpWide_at {n d : ℕ} (h : GrpFacts n d) (D : IVec (Per n) 1) (g : Fin n) (o : Fin d) (c : Fin 128) :
    grpWide n d h D (ix3 g o c) = D (ix3 g (0 : Fin 1) (0 : Fin 1)) := by
  refine (broadcastTo_apply _ _ _ (ix3 g (0 : Fin 1) (0 : Fin 1)) ?_).trans (shapeCast_apply _ _ _ _ rfl)
  intro a
  match a with
  | 0 =>
    show g.val = if n = 1 then 0 else g.val
    have := g.isLt
    split <;> omega
  | 1 => rfl
  | 2 => rfl

/-- A stage by groups, at the two rows of a pair: with the group's bit set the earlier entry goes to the lower row. -/
theorem grpStage_at {n d : ℕ} (h : GrpFacts n d) (hnd : n * (2 * d) = 256) (D : IVec (Per n) 1) (p : Pair F (Rows 256))
    (g : Fin n) (o : Fin d) (c : Fin 128) (hi : Bool) :
    (grpStage n d h D p).ent (grpRow hnd g hi o) c
      = pick (D (ix3 g (0 : Fin 1) (0 : Fin 1)))
          (pick (ahead (p.ent (grpRow hnd g false o) c) (p.ent (grpRow hnd g true o) c))
            (p.ent (grpRow hnd g hi o) c) (p.ent (grpRow hnd g (!hi) o) c))
          (pick (ahead (p.ent (grpRow hnd g false o) c) (p.ent (grpRow hnd g true o) c))
            (p.ent (grpRow hnd g (!hi) o) c) (p.ent (grpRow hnd g hi o) c)) := by
  unfold Pair.ent grpStage pick ahead
  refine Prod.ext ?_ ?_
  · refine (grpJoin_at h hnd _ _ hi g o c).trans ?_
    cases hi <;>
    simp only [select_apply, before, ori, andi, cmpf_apply, cmpi, grpHalf_at h hnd, grpWide_at, Bool.not_true, Bool.not_false, if_true,
      Bool.false_eq_true, if_false]
  · refine (grpJoin_at h hnd _ _ hi g o c).trans ?_
    cases hi <;>
    simp only [select_apply, before, ori, andi, cmpf_apply, cmpi, grpHalf_at h hnd, grpWide_at, Bool.not_true, Bool.not_false, if_true,
      Bool.false_eq_true, if_false]

/-- Every row is a row of a half of a group. -/
theorem exists_grpRow {n d : ℕ} (hd : 0 < d) (hnd : n * (2 * d) = 256) (r : Fin 256) : ∃ g hi o, r = grpRow hnd g hi o (n := n) := by
  have hr := r.isLt
  refine ⟨⟨r.val / d / 2, ?_⟩, decide (r.val / d % 2 = 1), ⟨r.val % d, Nat.mod_lt _ hd⟩, Fin.ext ?_⟩
  · rw [Nat.div_div_eq_div_mul, Nat.div_lt_iff_lt_mul (by omega), Nat.mul_comm d 2, hnd]; exact hr
  · show r.val = (r.val / d / 2 * 2 + (decide (r.val / d % 2 = 1)).toNat) * d + r.val % d
    have e : r.val / d / 2 * 2 + (decide (r.val / d % 2 = 1)).toNat = r.val / d := by
      by_cases h : r.val / d % 2 = 1
      · rw [decide_eq_true h]; show _ + 1 = _; omega
      · rw [decide_eq_false h]; show _ + 0 = _; omega
    rw [e, Nat.mul_comm]
    exact (Nat.div_add_mod _ _).symm

/-! ## Stages by rotations -/

/-- One word per row, at an entry of the row. -/
theorem colWide_at {α : Type} (x : Col.Idx → α) (r : Fin 256) (c : Fin 128) :
    broadcastTo (Rows 256) x colWide (ix2 r c) = x (ix2 r (0 : Fin 1)) := by
  refine broadcastTo_apply _ _ _ _ ?_
  intro a
  match a with
  | 0 => rfl
  | 1 => rfl

/-- A whole block broadcast to its own shape. -/
theorem rowsWide_at {α : Type} (x : (Rows 256).Idx → α) (j : (Rows 256).Idx) : broadcastTo (Rows 256) x rowsWide j = x j := by
  refine broadcastTo_apply _ _ _ _ ?_
  intro a
  match a with
  | 0 => rfl
  | 1 => rfl

/-- A rotation reads another row of the same column. -/
theorem rotate_at {α : Type} (n : BitVec 32) (x : (Rows 256).Idx → α) (r : Fin 256) (c : Fin 128) :
    dynamicRotate 0 n none x rot256 (ix2 r c) = x (ix2 ⟨(r.val + 256 - n.toNat % 256) % 256, Nat.mod_lt _ (by decide)⟩ c) := by
  refine dynamicRotate_apply _ _ _ _ _ _ ?_
  intro b
  match b with
  | 0 => rfl
  | 1 => rfl

/-- A bit of a small number, as the words read it. -/
theorem bit_clear (x : BitVec 32) (s : ℕ) (hx : x.toNat < 2 ^ 31) (hs : s < 32) :
    IntOp.cmpi .eq (IntOp.andi (IntOp.shrsi .vector x (BitVec.ofNat 32 s)) 1#32) 0#32 = BitVec.ofBool (decide (x.toNat / 2 ^ s % 2 = 0)) := by
  have hm : x.msb = false := by
    rw [BitVec.msb_eq_decide]; exact decide_eq_false (by omega)
  have hn : (BitVec.ofNat 32 s).toNat = s := by rw [BitVec.toNat_ofNat]; exact Nat.mod_eq_of_lt (by omega)
  unfold IntOp.cmpi IntOp.andi IntOp.shrsi
  rw [if_pos (by rw [hn]; exact hs), BitVec.sshiftRight', hn, BitVec.sshiftRight_eq_of_msb_false hm]
  refine congrArg BitVec.ofBool ?_
  show ((x >>> s) &&& 1#32 == 0#32) = _
  rw [beq_eq_decide]
  refine decide_eq_decide.mpr ?_
  rw [← BitVec.toNat_inj, BitVec.toNat_and, BitVec.toNat_ushiftRight, Nat.shiftRight_eq_div_pow]
  show (x.toNat / 2 ^ s) &&& 1 = 0 ↔ _
  rw [Nat.and_one_is_mod]

/-- The mask of rows with a clear bit, at a row. -/
theorem lowRows_at (s : ℕ) (hs : s < 32) (r : Fin 256) (z : Fin 1) :
    lowRows (BitVec.ofNat 32 s) (ix2 r z) = BitVec.ofBool (decide (r.val / 2 ^ s % 2 = 0)) := by
  have hr := r.isLt
  have e : (BitVec.ofNat 32 r.val).toNat = r.val := by rw [BitVec.toNat_ofNat]; exact Nat.mod_eq_of_lt (by omega)
  have h := bit_clear (BitVec.ofNat 32 r.val) s (by rw [e]; omega) hs
  rw [e] at h
  refine Eq.trans ?_ h
  show IntOp.cmpi .eq (IntOp.andi (IntOp.shrsi .vector (iota .tc Col 32 [0] colIota (ix2 r z)) (BitVec.ofNat 32 s)) 1#32) 0#32 = _
  rw [iota_single_apply]

/-- The bit of a number tested by masking. -/
theorem clear_iff (x s : ℕ) : x &&& 2 ^ s = 0 ↔ x / 2 ^ s % 2 = 0 := by
  rw [SortNet.and_two_pow_eq_zero_iff_testBit, Nat.testBit_eq_decide_div_mod_eq]
  simp

/-- The two rotations read the partner's entry. -/
theorem rollTo_at {α : Type} (t : ℕ) (ht : t < 8) (x : (Rows 256).Idx → α) (r : Fin 256) (c : Fin 128) :
    rollTo (BitVec.ofNat 32 (256 - 2 ^ t)) (BitVec.ofNat 32 (2 ^ t)) (BitVec.ofNat 32 t) x (ix2 r c)
      = x (ix2 (partner 8 t r : Fin (2 ^ 8)) c) := by
  have hr := r.isLt
  have hp : 2 ^ t < 256 := (Nat.pow_lt_pow_right (a := 2) (by decide) ht : 2 ^ t < 2 ^ 8)
  have hp0 : 0 < 2 ^ t := Nat.two_pow_pos t
  unfold rollTo
  rw [select_apply, colWide_at, shapeCast_apply _ _ (ix2 r (0 : Fin 1)) (ix2 r (0 : Fin 1)) rfl, lowRows_at t (by omega), rotate_at, rotate_at]
  by_cases hb : r.val / 2 ^ t % 2 = 0
  · rw [decide_eq_true hb]
    refine congrArg (fun k => x (ix2 k c)) (Fin.ext ?_)
    rw [partner_val_of_clear ht r ((clear_iff _ _).mpr hb)]
    have hlt := (partner 8 t r).isLt
    rw [partner_val_of_clear ht r ((clear_iff _ _).mpr hb)] at hlt
    show (r.val + 256 - (BitVec.ofNat 32 (256 - 2 ^ t)).toNat % 256) % 256 = r.val + 2 ^ t
    rw [BitVec.toNat_ofNat, Nat.mod_eq_of_lt (a := 256 - 2 ^ t) (by omega), Nat.mod_eq_of_lt (a := 256 - 2 ^ t) (by omega)]
    omega
  · rw [decide_eq_false hb]
    refine congrArg (fun k => x (ix2 k c)) (Fin.ext ?_)
    have hq := SortNet.partner_and_of_set ht r (fun h => hb ((clear_iff _ _).mp h))
    have hv := partner_val_of_clear ht _ hq
    rw [SortNet.partner_partner ht] at hv
    show (r.val + 256 - (BitVec.ofNat 32 (2 ^ t)).toNat % 256) % 256 = (partner 8 t r).val
    rw [BitVec.toNat_ofNat, Nat.mod_eq_of_lt (a := 2 ^ t) (by omega), Nat.mod_eq_of_lt (a := 2 ^ t) (by omega)]
    omega

/-- A stage by rotations, at a row: it keeps its own entry or takes its partner's. -/
theorem rollStage_at (t : ℕ) (ht : t < 8) (D : IVec Col 1) (p : Pair F (Rows 256)) (r : Fin 256) (c : Fin 128) :
    (rollStage (BitVec.ofNat 32 (256 - 2 ^ t)) (BitVec.ofNat 32 (2 ^ t)) (BitVec.ofNat 32 t) D p).ent r c
      = pick (IntOp.xori (IntOp.xori (IntOp.xori (IntOp.xori (BitVec.ofBool (decide (r.val / 2 ^ t % 2 = 0))) (D (ix2 r (0 : Fin 1)))) 1#1)
            (ahead (p.ent r c) (p.ent (partner 8 t r : Fin (2 ^ 8)) c))) 1#1)
          (p.ent r c) (p.ent (partner 8 t r : Fin (2 ^ 8)) c) := by
  unfold Pair.ent rollStage pick ahead rollKeep
  simp only [select_apply, before, ori, andi, xori, cmpf_apply, cmpi, rollTo_at t ht, rowsWide_at, colWide_at, lowRows_at t (by omega)]
  rfl

/-! ## Folds, pieces and levels -/

/-- The fold, at a row: the earlier of the entries of two rows. -/
theorem fold_at (p : Pair F (Rows 512)) (r : Fin 256) (c : Fin 128) :
    (fold p).ent r c
      = pick (ahead (p.ent ⟨r.val, by omega⟩ c) (p.ent ⟨256 + r.val, by omega⟩ c)) (p.ent ⟨r.val, by omega⟩ c) (p.ent ⟨256 + r.val, by omega⟩ c) := by
  have e0 : ∀ {α : Type} (x : (Rows 512).Idx → α), extractStridedSlice (Rows 256) ![0, 0] x upper (ix2 r c) = x (ix2 ⟨r.val, by omega⟩ c) := by
    intro α x
    refine extractStridedSlice_apply _ _ _ _ _ fun a => ?_
    match a with
    | 0 => exact (Nat.zero_add _).symm
    | 1 => exact (Nat.zero_add _).symm
  have e1 : ∀ {α : Type} (x : (Rows 512).Idx → α), extractStridedSlice (Rows 256) ![256, 0] x lower (ix2 r c) = x (ix2 ⟨256 + r.val, by omega⟩ c) := by
    intro α x
    refine extractStridedSlice_apply _ _ _ _ _ fun a => ?_
    match a with
    | 0 => rfl
    | 1 => exact (Nat.zero_add _).symm
  unfold Pair.ent fold pick ahead
  simp only [select_apply, before, ori, andi, cmpf_apply, cmpi, e0, e1]

/-- A piece, at a row. -/
theorem piece_at {n : ℕ} (hn : 0 < n) (p : Pair F (Rows (512 * n))) (k : ℕ) (hk : k < n) (r : Fin 512) (c : Fin 128) :
    (piece n hn p k).ent r c = p.ent ⟨512 * k + r.val, by omega⟩ c := by
  have e : ∀ {α : Type} (x : (Rows (512 * n)).Idx → α),
      extractStridedSlice (Rows 512) ![512 * (k % n), 0] x (pieceFacts n k hn) (ix2 r c) = x (ix2 ⟨512 * k + r.val, by omega⟩ c) := by
    intro α x
    refine extractStridedSlice_apply _ _ _ _ _ fun a => ?_
    match a with
    | 0 => show 512 * k + r.val = 512 * (k % n) + r.val; rw [Nat.mod_eq_of_lt hk]
    | 1 => exact (Nat.zero_add _).symm
  exact Prod.ext (e _) (e _)

/-- Entry `k` of a list of vectors. -/
theorem listed_length {α : Type} {s : Shape} (f : ℕ → s.Idx → α) (m k : ℕ) : (listed f m k).length = m := by
  induction m generalizing k with
  | zero => rfl
  | succ m ih => simp [listed, ih]

/-- An entry of the list of vectors. -/
theorem listed_getElem {α : Type} {s : Shape} (f : ℕ → s.Idx → α) (m k j : ℕ) (h : j < (listed f m k).length) :
    (listed f m k)[j] = ⟨s, f (k + j)⟩ := by
  induction m generalizing k j with
  | zero => exact absurd h (Nat.not_lt_zero _)
  | succ m ih =>
    cases j with
    | zero => rfl
    | succ j =>
      have := ih (k + 1) j (by simpa [listed] using h)
      simp only [listed, List.getElem_cons_succ]
      rw [this, show k + 1 + j = k + (j + 1) by omega]

/-- Blocks laid end to end, at a row of block `k`. -/
theorem joined_at {α : Type} {n : ℕ} (hn : 2 ≤ n) (f : ℕ → (Rows 256).Idx → α) (k : ℕ) (hk : k < n) (r : Fin 256) (c : Fin 128) :
    concatenate (Rows (256 * n)) 0 (listed f n 0) (joinFacts n hn f) (ix2 ⟨256 * k + r.val, by omega⟩ c) = f k (ix2 r c) := by
  refine concatenate_apply_piece (t := Rows (256 * n)) 0 (listed f n 0) (joinFacts n hn f) (ix2 ⟨256 * k + r.val, by omega⟩ c) k (by rw [listed_length f n 0]; exact hk) (Rows 256) (f k) ?_ rfl (256 * k) ?_ (ix2 r c) ?_ rfl
  · exact (listed_getElem f n 0 k _).trans (by rw [Nat.zero_add])
  · rw [List.map_take, listed_shapes, List.take_replicate, Nat.min_eq_left (Nat.le_of_lt hk), List.map_replicate, List.sum_replicate]
    show k * 256 = 256 * k
    exact Nat.mul_comm _ _
  · intro b hb
    match b with
    | 0 => exact absurd rfl hb
    | 1 => rfl

/-- A level, at a row of block `k`: the merge of piece `k`. -/
theorem level_at {n : ℕ} (hn : 2 ≤ n) (p : Pair F (Rows (512 * n))) (k : ℕ) (hk : k < n) (r : Fin 256) (c : Fin 128) :
    (level n hn p).ent ⟨256 * k + r.val, by omega⟩ c = (half (dirBit k) (piece n (by omega) p k)).ent r c :=
  Prod.ext (joined_at hn _ k hk r c) (joined_at hn _ k hk r c)

end Cert.Proof.Net

end
-- ==== Proof.Gather.lean ====
/-
  The row gather on the SparseCores, run once for every float semantics and with the values it leaves: each of the
  thirty-two tiles fetches its eight rows of the index array, streams the rows of the table those indices name into its
  two row buffers in turn (the next gather in flight while the last one is written out) and writes each buffer to its own
  128 rows of the result.

  What a tile is handed: a thirty-second SHARE of the table (`leaf 5`), its eight rows of the index array, its eight
  blocks of 128 rows of the result. What it brings back: the same, the result's blocks at `gat`, the gathered table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.VecWindow
public import Idealize.ShloMosaic.Lib.Pipeline.ValueKit
public import Idealize.ShloMosaic.Lib.ValueIdxCore
public import Idealize.ShloMosaic.Lib.StableHlo.Run
public import Idealize.ShloMosaic.Lib.Pipeline.Kit
public import Idealize.ShloMosaic.Lib.Tactic
public import proofs.«01_k».proof.Proof.Gen.KernelIdeal

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the two TensorCore calls. -/
abbrev ΛP : Labels := Pipeline.Sig Λ₀ (Fin 2) fun p => (pcfgs (F := F) p).Adm
/-- The SparseCore call. -/
abbrev K : SparseCore.Cfg τ sig (ΛP (F := F)) 1 := sc (F := F)
/-- It runs on 16 tiles of each core. -/
theorem nSub_zero : (K (F := F)).nSub 0 = 16 := rfl
/-- It runs on two cores. -/
theorem nCore_zero : (K (F := F)).nCore 0 = 2 := rfl
/-- The bodies under the SparseCore launch. -/
abbrev D [FloatOps F] : Defs nD τ sig (Elt F) (ΛP (F := F)) := Pipeline.defs pcfgs defs₀
/-- No loop is measured. -/
abbrev 𝒱₀ : Variants := Variants.none
/-- The same under the launch. -/
abbrev 𝒱 : Variants := 𝒱₀.lift
/-- The measure at the start. -/
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's round counters. -/
abbrev UH : Type := URounds (GSem nD τ sig) ℕ
/-- The pipelines' round counters. -/
abbrev UP : Type := URounds (GSem nD τ sig) Unit
/-- The ghost state: the pipelines' rounds, the handshakes' rounds, the transfers' counters. -/
abbrev UU : Type := UP × (UH × Counters)

local notation "𝕄" => MT nD τ sig (HIx 1) (Elt F) ℕ UU ℕ

/-- Where the pipelines' counters sit. -/
abbrev EP : Emb UP (MT nD τ sig (HIx 1) (Elt F) ℕ UU ℕ) := embL
/-- Where the launch's counters sit. -/
def EH : Emb UH (MT nD τ sig (HIx 1) (Elt F) ℕ UU ℕ) := (Emb.inl : Emb UH (UH × Counters)).trans embR
/-- The launch's counters sit in the user's part. -/
instance EH_landsIn : (EH : Emb UH (MT nD τ sig (HIx 1) (Elt F) ℕ UU ℕ)).LandsIn (upEmb : UEmb _ (MT nD τ sig (HIx 1) (Elt F) ℕ UU ℕ)) := by
  unfold EH; infer_instance

/-! ## The buffers -/

/-- The table. -/
abbrev hLoc (d : Dev nD) : Loc nD τ sig := (SparseCore.T d).loc main_arg0
/-- The array of row numbers. -/
abbrev iLoc (d : Dev nD) : Loc nD τ sig := (SparseCore.T d).loc main_v1
/-- The call's result. -/
abbrev oLoc (d : Dev nD) : Loc nD τ sig := (SparseCore.T d).loc main_v2

local notation "hV" => (Memref.whole Cert.KernelIdeal.main_arg0_scv : Memref Cert.KernelIdeal.sig Kind.scVector Space.hbm Cert.KernelIdeal.S32768x128 EltTy.f32)
local notation "iV" => (Memref.whole Cert.KernelIdeal.main_v1_scv : Memref Cert.KernelIdeal.sig Kind.scVector Space.hbm Cert.KernelIdeal.S256x128 EltTy.i32)
local notation "oV" => (Memref.whole Cert.KernelIdeal.main_v2_scv : Memref Cert.KernelIdeal.sig Kind.scVector Space.hbm Cert.KernelIdeal.S32768x128 EltTy.f32)
local notation "sV" => (Memref.whole Cert.KernelIdeal.cc2_scratch0 : Memref Cert.KernelIdeal.sig Kind.scVector Space.vmem Cert.KernelIdeal.S8x128 EltTy.i32)
local notation "aV" => (Memref.whole Cert.KernelIdeal.cc2_scratch1 : Memref Cert.KernelIdeal.sig Kind.scVector Space.vmem Cert.KernelIdeal.S128x128 EltTy.f32)
local notation "bV" => (Memref.whole Cert.KernelIdeal.cc2_scratch2 : Memref Cert.KernelIdeal.sig Kind.scVector Space.vmem Cert.KernelIdeal.S128x128 EltTy.f32)

/-- The row numbers split into 32 parts. -/
theorem idiv : 32 ∣ S256x128.size 0 := ⟨8, rfl⟩
/-- The result splits into 256 parts. -/
theorem odiv : 256 ∣ S32768x128.size 0 := ⟨128, rfl⟩
/-- A tile's row numbers split into 8 rows. -/
theorem sdiv : 8 ∣ S8x128.size 0 := ⟨1, rfl⟩
/-- A tile's row numbers. -/
abbrev irow (w : Fin 32) : Rect S256x128 := Rect.part (s := S256x128) (a₀ := 0) idiv w
/-- A block of 128 rows of the result. -/
abbrev orow (t : Fin 256) : Rect S32768x128 := Rect.part (s := S32768x128) (a₀ := 0) odiv t
/-- A row of the tile's row numbers. -/
abbrev srow (j : Fin 8) : Rect S8x128 := Rect.part (s := S8x128) (a₀ := 0) sdiv j
/-- The elements of a tile's row numbers. -/
abbrev iRowSet (w : Fin 32) : Finset S256x128.Idx := ((iV).view.slice (irow w)).set
/-- The elements of a block of the result. -/
abbrev oRowSet (t : Fin 256) : Finset S32768x128.Idx := ((oV).view.slice (orow t)).set
/-- The elements of a row of the tile's row numbers. -/
abbrev sRowSet (j : Fin 8) : Finset S8x128.Idx := ((sV).view.slice (srow j)).set

/-- Block `j` of task `w`. -/
abbrev blk (w : Fin 32) (j : Fin 8) : Fin 256 := ⟨8 * w.val + j.val, by omega⟩

/-! ## The values -/

/-- The gathered table: row `128 a + b` is the table's row named by index `(a, b)`. -/
def gat (h : S32768x128.Idx → Elt F .f32) (ix : S256x128.Idx → Elt F .i32) : S32768x128.Idx → Elt F .f32 := fun x =>
  h (ValueIdx.ix2 (Fin.ofNat 32768 (BitVec.toNat (ix (ValueIdx.ix2 ⟨(x 0).val / 128, by have : (x 0).val < 32768 := (x 0).isLt; omega⟩
    ⟨(x 0).val % 128, Nat.mod_lt _ (by decide)⟩)))) (x 1))

/-- One block of 128 gathered rows, as a row buffer holds it: those of index row `t`. -/
def gatBlk (h : S32768x128.Idx → Elt F .f32) (ix : S256x128.Idx → Elt F .i32) (t : Fin 256) : S128x128.Idx → Elt F .f32 := fun x =>
  h (ValueIdx.ix2 (Fin.ofNat 32768 (BitVec.toNat (ix (ValueIdx.ix2 t (x 0))))) (x 1))

/-- The eight index rows of task `w`, as its index scratch holds them. -/
def ixBlk (ix : S256x128.Idx → Elt F .i32) (w : Fin 32) : S8x128.Idx → Elt F .i32 := fun x => ix (ValueIdx.ix2 (blk w (x 0)) (x 1))

/-! ## What the handshakes carry -/

variable (Hc : (d : Dev nD) → Buf (Elt F) (hLoc d)) (Ic : (d : Dev nD) → Buf (Elt F) (iLoc d)) (Oc : (d : Dev nD) → Buf (Elt F) (oLoc d))

/-- A tile's share of the table. -/
abbrev hq (w : Fin 32) : PosShare TreeShare := ShareLeaves.leaf 5 fullShare w
/-- The table, at a tile's share. -/
abbrev hShPts (d : Dev nD) (w : Fin 32) : sProp 𝕄 := hLoc d ↦{hq w} Hc d
/-- A tile's row numbers, owned. -/
abbrev iRowPts (d : Dev nD) (w : Fin 32) : sProp 𝕄 := iLoc d ↦[iRowSet w]{fullShare} Ic d
/-- A block of the result, owned. -/
abbrev oBlkPts (d : Dev nD) (t : Fin 256) (f : Buf (Elt F) (oLoc d)) : sProp 𝕄 := oLoc d ↦[oRowSet t]{fullShare} f

/-- What task `w` is handed, and brings back (`f` the result's contents). -/
abbrev taskPts (d : Dev nD) (f : Buf (Elt F) (oLoc d)) (w : Fin 32) : sProp 𝕄 :=
  iprop(hShPts Hc d w ∗ iRowPts Ic d w ∗ bigSep Finset.univ fun j : Fin 8 => oBlkPts d (blk w j) f)

/-- The task of subcore `i` of SparseCore `c`. -/
abbrev wid (c : Fin 2) (i : Fin 16) : Fin 32 := ⟨2 * i.val + c.val, by omega⟩

/-- What each task is handed and gives back. -/
def P : (K (F := F)).Pay (nD := nD) (Val := Elt F) (Name := ℕ) (U := UU) where
  st := fun q d c => match q with | 0 => bigSep Finset.univ fun i : Fin 16 => taskPts Hc Ic d (Oc d) (wid (Fin.cast nCore_zero c) i)
  dn := fun q d c => match q with | 0 => bigSep Finset.univ fun i : Fin 16 => taskPts Hc Ic d (gat (Hc d) (Ic d)) (wid (Fin.cast nCore_zero c) i)
  go := fun q d c i => match q with | 0 => taskPts Hc Ic d (Oc d) (wid (Fin.cast nCore_zero c) (Fin.cast nSub_zero i))
  td := fun q d c i => match q with | 0 => taskPts Hc Ic d (gat (Hc d) (Ic d)) (wid (Fin.cast nCore_zero c) (Fin.cast nSub_zero i))
  x := fun _ _ => iprop(emp)

/-- What is handed over can be kept by the launch. -/
instance P_storable : (P (F := F) Hc Ic Oc).IsStorable where
  st q d c := match q with
    | 0 => (inferInstance : BI.Storable (upEmb : UEmb _ 𝕄) (bigSep Finset.univ fun i : Fin 16 => taskPts Hc Ic d (Oc d) (wid (Fin.cast nCore_zero c) i)))
  dn q d c := match q with
    | 0 => (inferInstance : BI.Storable (upEmb : UEmb _ 𝕄) (bigSep Finset.univ fun i : Fin 16 => taskPts Hc Ic d (gat (Hc d) (Ic d)) (wid (Fin.cast nCore_zero c) i)))
  go q d c i := match q with
    | 0 => (inferInstance : BI.Storable (upEmb : UEmb _ 𝕄) (taskPts Hc Ic d (Oc d) (wid (Fin.cast nCore_zero c) (Fin.cast nSub_zero i))))
  td q d c i := match q with
    | 0 => (inferInstance : BI.Storable (upEmb : UEmb _ 𝕄) (taskPts Hc Ic d (gat (Hc d) (Ic d)) (wid (Fin.cast nCore_zero c) (Fin.cast nSub_zero i))))

/-- What the run asks of the indices: each names a row of the table. -/
def IxOK : Prop := ∀ (d : Dev nD) (j : S256x128.Idx), BitVec.toNat (Ic d j) < 32768

/-! ## The task -/

section Tile

variable (d : Dev nD) (L : grid2.Coords)

/-- A tile's core. -/
abbrev cV (L : grid2.Coords) : Fin τ.nSC := (L 0).castLE hcore2
/-- A tile's number on its core. -/
abbrev jV (L : grid2.Coords) : Fin τ.nSub := (L 1).castLE hsub2
/-- Two cores. -/
theorem bound_zero : grid2.bound 0 = 2 := rfl
/-- Sixteen tiles. -/
theorem bound_one : grid2.bound 1 = 16 := rfl
/-- A tile's number among the 32. -/
abbrev wL (L : grid2.Coords) : Fin 32 := wid (Fin.cast bound_zero (L 0)) (Fin.cast bound_one (L 1))
/-- A tile's thread. -/
abbrev thr (d : Dev nD) (L : grid2.Coords) : Thread nD τ := V d (cV L) (jV L)

/-- Task `L`'s index rows, block `j` of the result, row `j` of the index scratch and all of the table, as the task
    addresses them. -/
abbrev iRowK (L : grid2.Coords) : Memref sig .scVector .hbm S8x128 .i32 :=
  (iV).slice (Rect.unit (s := S256x128) (k2_off1 L) S8x128.size (k2_off1_inb L)) (fun _ => rfl)
/-- A block of the result, as the kernel names it. -/
abbrev oK (L : grid2.Coords) (b : BitVec 32) (h : ∀ a, (k2_off2 L b) a + S128x128.size a ≤ S32768x128.size a) : Memref sig .scVector .hbm S128x128 .f32 :=
  (oV).slice (Rect.unit (s := S32768x128) (k2_off2 L b) S128x128.size h) (fun _ => rfl)
/-- A row of the row numbers, as the kernel names it. -/
abbrev lK (j : ℕ) (h : ∀ a, (![j, 0] : Fin 2 → ℕ) a + S1x128.size a ≤ S8x128.size a) : Memref sig .scVector .vmem S128 .i32 :=
  ((sV).slice (Rect.unit (s := S8x128) ![j, 0] S1x128.size h) (fun _ => rfl)).squeeze S128 squeezes_S1x128_S128
/-- The whole table, as the kernel names it. -/
abbrev hAllK : Memref sig .scVector .hbm S32768x128 .f32 :=
  (hV).slice (Rect.unit (s := S32768x128) ![0, 0] S32768x128.size inb_S32768x128_S32768x128_0_0) (fun _ => rfl)

/-- A tile's number, written out. -/
theorem wL_val : (wL L).val = 2 * (L 1).val + (L 0).val := rfl

/-- The rows the kernel copies from are the tile's. -/
theorem irowK_eq (w : Fin 32) (hw : w.val = 2 * (L 1).val + (L 0).val) :
    Rect.unit (s := S256x128) (k2_off1 L) S8x128.size (k2_off1_inb L) = irow w := by
  unfold irow Rect.part Rect.block
  congr 1 <;> funext a
  · rw [k2_off1_eq]
    match a with
    | 0 => simp [Shape.partIx, Shape.partSize]; omega
    | 1 => simp [Shape.partIx, Shape.partSize]
  · match a with
    | 0 => simp [Shape.partSize]
    | 1 => simp [Shape.partSize]

/-- The block the kernel writes is the tile's block. -/
theorem oK_eq (t : Fin 256) (j : Fin 8) (ht : t.val = 8 * (2 * (L 1).val + (L 0).val) + j.val) (b : BitVec 32) (hb : b = BitVec.ofNat 32 j.val)
    (h : ∀ a, (k2_off2 L b) a + S128x128.size a ≤ S32768x128.size a) :
    Rect.unit (s := S32768x128) (k2_off2 L b) S128x128.size h = orow t := by
  subst hb
  unfold orow Rect.part Rect.block
  congr 1 <;> funext a
  · rw [k2_off2_eq]
    match a with
    | 0 => simp [Shape.partIx, Shape.partSize]; omega
    | 1 => simp [Shape.partIx, Shape.partSize]
  · match a with
    | 0 => simp [Shape.partSize]
    | 1 => simp [Shape.partSize]

/-- The row the kernel reads its numbers from. -/
theorem lK_eq (j : Fin 8) (n : ℕ) (hn : n = j.val) (h : ∀ a, (![n, 0] : Fin 2 → ℕ) a + S1x128.size a ≤ S8x128.size a) :
    Rect.unit (s := S8x128) ![n, 0] S1x128.size h = srow j := by
  subst hn
  unfold srow Rect.part Rect.block
  congr 1 <;> funext a
  · match a with
    | 0 => simp [Shape.partIx, Shape.partSize]
    | 1 => simp [Shape.partIx, Shape.partSize]
  · match a with
    | 0 => simp [Shape.partSize]
    | 1 => simp [Shape.partSize]

/-- The whole table is every element. -/
theorem set_hAllK : (hAllK).view.set = Finset.univ := by
  show ((View.whole (main_arg0_scv : Ref sig .scVector)).slice (Rect.unit (s := S32768x128) ![0, 0] S32768x128.size inb_S32768x128_S32768x128_0_0)).set = _
  rw [View.set_slice]
  rw [Rect.set_eq_univ_of_whole (Rect.unit (s := S32768x128) ![0, 0] S32768x128.size inb_S32768x128_S32768x128_0_0)
    fun a => match a with | 0 => ⟨rfl, rfl, rfl⟩ | 1 => ⟨rfl, rfl, rfl⟩]
  exact Finset.map_refl

/-- The elements of the tile's row numbers. -/
theorem set_iRowK : (iRowK L).view.set = iRowSet (wL L) := by
  show ((iV).view.slice (Rect.unit (s := S256x128) (k2_off1 L) S8x128.size (k2_off1_inb L))).set = ((iV).view.slice (irow (wL L))).set
  exact irowK_eq L (wL L) rfl ▸ rfl
/-- The elements of the block written. -/
theorem set_oK (j : Fin 8) (b : BitVec 32) (hb : b = BitVec.ofNat 32 j.val) (h : ∀ a, (k2_off2 L b) a + S128x128.size a ≤ S32768x128.size a) :
    (oK L b h).view.set = oRowSet (blk (wL L) j) := by
  show ((oV).view.slice (Rect.unit (s := S32768x128) (k2_off2 L b) S128x128.size h)).set = ((oV).view.slice (orow (blk (wL L) j))).set
  exact oK_eq L (blk (wL L) j) j rfl b hb h ▸ rfl
/-- The elements of the row of numbers read. -/
theorem set_lK (j : Fin 8) (n : ℕ) (hn : n = j.val) (h : ∀ a, (![n, 0] : Fin 2 → ℕ) a + S1x128.size a ≤ S8x128.size a) :
    (lK n h).view.set = sRowSet j := by
  show (((sV).view.slice (Rect.unit (s := S8x128) ![n, 0] S1x128.size h)).reshape S128 squeezes_S1x128_S128.numel_eq).set = ((sV).view.slice (srow j)).set
  rw [View.set_reshape]; exact lK_eq j n hn h ▸ rfl

/-- Owning the tile's row numbers, in the two forms. -/
theorem pts_iRowK (f : Buf (Elt F) (iLoc d)) :
    ((iRowK L).view.loc (thr d L) ↦[(iRowK L).view.set]{fullShare} f : sProp 𝕄) = iLoc d ↦[iRowSet (wL L)]{fullShare} f := by
  rw [set_iRowK]
/-- Owning the block written, in the two forms. -/
theorem pts_oK (j : Fin 8) (b : BitVec 32) (hb : b = BitVec.ofNat 32 j.val) (h : ∀ a, (k2_off2 L b) a + S128x128.size a ≤ S32768x128.size a)
    (f : Buf (Elt F) (oLoc d)) :
    ((oK L b h).view.loc (thr d L) ↦[(oK L b h).view.set]{fullShare} f : sProp 𝕄) = oLoc d ↦[oRowSet (blk (wL L) j)]{fullShare} f := by
  rw [set_oK L j b hb h]
/-- Owning the row of numbers read, in the two forms. -/
theorem pts_lK (j : Fin 8) (n : ℕ) (hn : n = j.val) (h : ∀ a, (![n, 0] : Fin 2 → ℕ) a + S1x128.size a ≤ S8x128.size a)
    (f : Buf (Elt F) ((thr d L).loc cc2_scratch0)) :
    ((lK n h).view.loc (thr d L) ↦[(lK n h).view.set]{fullShare} f : sProp 𝕄) = (thr d L).loc cc2_scratch0 ↦[sRowSet j]{fullShare} f := by
  rw [set_lK j n hn h]
/-- Owning the table at a share, in the two forms. -/
theorem pts_hAllK (q : PosShare TreeShare) (f : Buf (Elt F) (hLoc d)) :
    ((hAllK).view.loc (thr d L) ↦[(hAllK).view.set]{q} f : sProp 𝕄) = hLoc d ↦{q} f := by
  rw [set_hAllK]

/-! ### Values -/

/-- Where an element of the tile's row numbers is in the whole array. -/
theorem iRowK_emb (x : S8x128.Idx) : (iRowK L).view.emb x = ValueIdx.ix2 (blk (wL L) (x 0)) (x 1) := by
  funext a; apply Fin.ext
  have h : ∀ a, (((iRowK L).view.emb x a : Fin _) : ℕ) = k2_off1 L a + (x a).val := fun a =>
    ValueKit.view_emb_slice_whole_unit_val (main_v1_scv : Ref sig .scVector) (k2_off1 L) S8x128.size (k2_off1_inb L) x a
  refine (h a).trans ?_
  rw [k2_off1_eq]
  match a with
  | 0 => show 16 * (L 1).val + 8 * (L 0).val + (x 0).val = 8 * (2 * (L 1).val + (L 0).val) + (x 0).val; omega
  | 1 => show 0 + (x 1).val = (x 1).val; omega

/-- What the index fetch lands: the task's eight index rows. -/
theorem read_iRowK (f : Buf (Elt F) (iLoc d)) : (iRowK L).view.read (Elt F) f = ixBlk (F := F) f (wL L) := by
  funext x
  rw [View.read_apply, iRowK_emb]; rfl

/-- Reading the whole table. -/
theorem read_hAllK (f : Buf (Elt F) (hLoc d)) (x : S32768x128.Idx) : (hAllK).view.read (Elt F) f x = f x := by
  rw [View.read_apply, show (hAllK).view.emb x = x from
    Rect.emb_unit_full (s := S32768x128) (off := ![0, 0]) inb_S32768x128_S32768x128_0_0 x]; rfl

/-- Entry `k` of a list of 128 words in row-major order is entry `k`. -/
theorem entry_val : ∀ k : Fin 128, ((Shape.reshapeEquiv squeezes_S1x128_S128.numel_eq (S128.rowMajor.symm k) 1 : Fin 128) : ℕ) = k.val := by
  decide +kernel

/-- Entry `k` of row `j` of the index scratch. -/
theorem lK_emb (j : Fin 8) (n : ℕ) (hn : n = j.val) (h : ∀ a, (![n, 0] : Fin 2 → ℕ) a + S1x128.size a ≤ S8x128.size a) (k : Fin 128) :
    (lK n h).view.emb (S128.rowMajor.symm k) = ValueIdx.ix2 j k := by
  subst hn
  have hk := entry_val k
  have h0 : ∀ z : S1x128.Idx, (z 0).val = 0 := fun z => by have : (z 0).val < 1 := (z 0).isLt; omega
  funext a; apply Fin.ext
  match a with
  | 0 =>
    show j.val + 1 * (Shape.reshapeEquiv squeezes_S1x128_S128.numel_eq (S128.rowMajor.symm k) 0 : Fin 1).val = j.val
    rw [show (Shape.reshapeEquiv squeezes_S1x128_S128.numel_eq (S128.rowMajor.symm k) 0 : Fin 1).val = 0 from h0 _]; omega
  | 1 =>
    show 0 + 1 * (Shape.reshapeEquiv squeezes_S1x128_S128.numel_eq (S128.rowMajor.symm k) 1 : Fin 128).val = k.val
    rw [hk]; omega

/-- Reading a row of the row numbers. -/
theorem read_lK (j : Fin 8) (n : ℕ) (hn : n = j.val) (h : ∀ a, (![n, 0] : Fin 2 → ℕ) a + S1x128.size a ≤ S8x128.size a)
    (ix : S256x128.Idx → Elt F .i32) (w : Fin 32) (k : Fin 128) :
    (lK n h).view.read (Elt F) (ixBlk (F := F) ix w) (S128.rowMajor.symm k) = ix (ValueIdx.ix2 (blk w j) k) := by
  rw [View.read_apply, lK_emb j n hn h k]; rfl

/-- Row `j` of the fetched indices names rows of the table. -/
theorem lK_inb (hpre : IxOK Ic) (j : Fin 8) (n : ℕ) (hn : n = j.val) (h : ∀ a, (![n, 0] : Fin 2 → ℕ) a + S1x128.size a ≤ S8x128.size a) (w : Fin 32) :
    ∀ x, BitVec.toNat ((lK n h).view.read (Elt F) (ixBlk (F := F) (Ic d) w) x) < S32768x128.size gathers_S32768x128_S128x128.axis := by
  intro x
  have e : x = S128.rowMajor.symm (S128.rowMajor x) := (Equiv.symm_apply_apply _ _).symm
  rw [e]
  exact (congrArg (fun v => BitVec.toNat v < 32768) (read_lK j n hn h (Ic d) w (S128.rowMajor x))).mpr (hpre d _)

/-- The gather's payload is block `j` of the gathered table. -/
theorem payload_eq (hpre : IxOK Ic) (j : Fin 8) (n : ℕ) (hn : n = j.val) (h : ∀ a, (![n, 0] : Fin 2 → ℕ) a + S1x128.size a ≤ S8x128.size a)
    (w : Fin 32) (hnn : S128.numel = S128x128.size gathers_S32768x128_S128x128.axis') :
    SparseCore.gatherPayload gathers_S32768x128_S128x128 ((hAllK).view.read (Elt F) (Hc d))
        (SparseCore.rows (F := F) ((lK n h).view.read (Elt F) (ixBlk (F := F) (Ic d) w)) hnn (lK_inb Ic d hpre j n hn h w))
      = gatBlk (F := F) (Hc d) (Ic d) (blk w j) := by
  funext x
  unfold SparseCore.gatherPayload
  rw [read_hAllK]
  unfold gatBlk
  refine congrArg (Hc d) ?_
  funext a; apply Fin.ext
  match a with
  | 0 =>
    have e := Shape.Gathers.idx_axis gathers_S32768x128_S128x128
      (SparseCore.rows (F := F) ((lK n h).view.read (Elt F) (ixBlk (F := F) (Ic d) w)) hnn (lK_inb Ic d hpre j n hn h w)) x
    refine (congrArg Fin.val e).trans ?_
    show BitVec.toNat ((lK n h).view.read (Elt F) (ixBlk (F := F) (Ic d) w) (S128.rowMajor.symm (x 0)))
      = BitVec.toNat (Ic d (ValueIdx.ix2 (blk w j) (x 0))) % 32768
    refine (congrArg BitVec.toNat (read_lK j n hn h (Ic d) w (x 0))).trans (Nat.mod_eq_of_lt (hpre d _)).symm
  | 1 =>
    exact Shape.Gathers.idx_of_ne gathers_S32768x128_S128x128 _ x 1 (by decide)

/-- A block of the result written with its gathered rows holds the gathered table's elements. -/
theorem pts_oK_gat (j : Fin 8) (b : BitVec 32) (hb : b = BitVec.ofNat 32 j.val) (h : ∀ a, (k2_off2 L b) a + S128x128.size a ≤ S32768x128.size a)
    (f : Buf (Elt F) (oLoc d)) :
    ((oK L b h).view.loc (thr d L) ↦[(oK L b h).view.set]{fullShare}
        (oK L b h).view.write (Elt F) f (gatBlk (F := F) (Hc d) (Ic d) (blk (wL L) j)) Finset.univ : sProp 𝕄)
      = oBlkPts d (blk (wL L) j) (gat (F := F) (Hc d) (Ic d)) := by
  subst hb
  refine Eq.trans ?_ (pts_oK d L j _ rfl h _)
  refine pointsTo_congr fun i hi => ?_
  obtain ⟨x, -, rfl⟩ := Finset.mem_map.mp hi
  rw [View.write_emb_of_mem _ _ (Finset.mem_univ x)]
  have e0 : ((oK L _ h).view.emb x 0 : ℕ) = 128 * (blk (wL L) j).val + (x 0).val := by
    refine (ValueKit.view_emb_slice_whole_unit_val (main_v2_scv : Ref sig .scVector) (k2_off2 L (BitVec.ofNat 32 j.val)) S128x128.size h x 0).trans ?_
    refine (congrArg (fun g : Fin 2 → ℕ => g 0 + (x 0).val) (k2_off2_eq L j)).trans ?_
    show 2048 * (L 1).val + 1024 * (L 0).val + 128 * j.val + (x 0).val = 128 * (8 * (2 * (L 1).val + (L 0).val) + j.val) + (x 0).val
    omega
  have e1 : ((oK L _ h).view.emb x 1 : ℕ) = (x 1).val := by
    refine (ValueKit.view_emb_slice_whole_unit_val (main_v2_scv : Ref sig .scVector) (k2_off2 L (BitVec.ofNat 32 j.val)) S128x128.size h x 1).trans ?_
    refine (congrArg (fun g : Fin 2 → ℕ => g 1 + (x 1).val) (k2_off2_eq L j)).trans ?_
    show 0 + (x 1).val = (x 1).val
    omega
  show gatBlk (F := F) (Hc d) (Ic d) (blk (wL L) j) x = gat (F := F) (Hc d) (Ic d) ((oK L _ h).view.emb x)
  have hx0 : (x 0).val < 128 := (x 0).isLt
  unfold gatBlk gat
  have i0 : (⟨((oK L _ h).view.emb x 0 : ℕ) / 128, by omega⟩ : Fin 256) = blk (wL L) j := Fin.ext (by show _ / 128 = _; omega)
  have i1 : (⟨((oK L _ h).view.emb x 0 : ℕ) % 128, Nat.mod_lt _ (by decide)⟩ : Fin 128) = x 0 := Fin.ext (by show _ % 128 = _; omega)
  have i2 : ((oK L _ h).view.emb x 1 : Fin 128) = x 1 := Fin.ext e1
  exact congrArg (Hc d) (by rw [← i0, ← i1, ← i2])

/-! ### The scratch and the semaphores -/

/-- The eight rows of the tile's numbers share no element. -/
theorem srows_disjoint : ∀ i ∈ (Finset.univ : Finset (Fin 8)), ∀ j ∈ (Finset.univ : Finset (Fin 8)), i ≠ j → Disjoint (sRowSet i) (sRowSet j) :=
  fun i _ j _ h => by
    rw [show sRowSet i = (srow i).set from (View.set_slice _ _).trans Finset.map_refl, show sRowSet j = (srow j).set from (View.set_slice _ _).trans Finset.map_refl]
    exact Rect.part_disjoint sdiv h
/-- The eight rows are all of the tile's numbers. -/
theorem srows_cover : (Finset.univ : Finset (Fin 8)).biUnion sRowSet = Finset.univ :=
  (Finset.biUnion_congr rfl fun _ _ => (View.set_slice _ _).trans Finset.map_refl).trans (Rect.biUnion_part sdiv)

/-- Owning the tile's numbers is owning the eight rows. -/
theorem sPts_rows (f : Buf (Elt F) ((thr d L).loc cc2_scratch0)) :
    ((thr d L).loc cc2_scratch0 ↦{fullShare} f : sProp 𝕄) = bigSep Finset.univ fun j : Fin 8 => (thr d L).loc cc2_scratch0 ↦[sRowSet j]{fullShare} f := by
  rw [← pointsTo_biUnion Finset.univ (ℓ := (thr d L).loc cc2_scratch0) sRowSet srows_disjoint, srows_cover]

/-- Eight things, one after another. -/
theorem fin8 (Φ : Fin 8 → sProp 𝕄) : bigSep Finset.univ Φ = iprop(Φ 0 ∗ Φ 1 ∗ Φ 2 ∗ Φ 3 ∗ Φ 4 ∗ Φ 5 ∗ Φ 6 ∗ Φ 7) :=
  BI.bigSep_univ_eq_bigSepL [0, 1, 2, 3, 4, 5, 6, 7] (by decide) (by decide) Φ

/-- The task's eleven transfer semaphores. -/
abbrev semOf : Fin 11 → DmaSem sig :=
  ![cc2_scratch3.sem, cc2_scratch4.sem, cc2_scoped0.sem, cc2_scoped1.sem, cc2_scoped2.sem, cc2_scoped3.sem, cc2_scoped4.sem, cc2_scoped5.sem,
    cc2_scoped6.sem, cc2_scoped7.sem, cc2_scoped8.sem]
/-- The semaphores are different. -/
theorem semOf_inj : Function.Injective semOf := by decide
/-- The semaphores are scoped. -/
theorem semOf_scoped : ∀ n, (SemLoc.dma (semOf n) : SemLoc sig).isScoped .scVector = true := by decide
/-- The tile's semaphores. -/
def semCell (d : Dev nD) (L : grid2.Coords) : Fin 11 ↪ GSem nD τ sig :=
  ⟨fun n => (thr d L, .dma (semOf n)), fun _ _ h => semOf_inj (SemLoc.dma.inj (Prod.mk.inj h).2)⟩

/-- Eleven things, one after another. -/
theorem fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  BI.bigSep_univ_eq_bigSepL [0, 1, 2, 3, 4, 5, 6, 7, 8, 9, 10] (by decide) (by decide) Φ

/-- A semaphore at zero. -/
abbrev sem0 (d : Dev nD) (L : grid2.Coords) (s : DmaSems sig S_) : sProp 𝕄 := semVal ((thr d L, .dma s.sem) : GSem nD τ sig) 0

/-- The tile's semaphores, one by one. -/
theorem ownSems0_V :
    (ownSems0 (thr d L) : sProp 𝕄)
      = iprop((sem0 d L cc2_scratch3 ∗ sem0 d L cc2_scratch4 ∗ sem0 d L cc2_scoped0 ∗ sem0 d L cc2_scoped1 ∗ sem0 d L cc2_scoped2 ∗ sem0 d L cc2_scoped3
          ∗ sem0 d L cc2_scoped4 ∗ sem0 d L cc2_scoped5 ∗ sem0 d L cc2_scoped6 ∗ sem0 d L cc2_scoped7 ∗ sem0 d L cc2_scoped8)
          ∗ bigSep (ownCells (thr d L) \ Finset.univ.map (semCell d L)) fun g => semVal g 0) := by
  unfold SparseCore.Cfg.ownSems0
  rw [SparseCore.bigSep_sdiff_split' (t := Finset.univ.map (semCell d L)) (fun g hg => by
    obtain ⟨n, -, rfl⟩ := Finset.mem_map.mp hg
    exact mem_ownCells.mpr ⟨rfl, semOf_scoped n⟩), BI.bigSep_map, fin11]
  rfl

/-- The three scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  have m1 := SparseCore.Cfg.mem_ownRefs_of_owner (p := Proc.scVector (cV L) (jV L)) (b := (Proc.scVector (cV L) (jV L)).devRef cc2_scratch1) rfl
  have m2 := SparseCore.Cfg.mem_ownRefs_of_owner (p := Proc.scVector (cV L) (jV L)) (b := (Proc.scVector (cV L) (jV L)).devRef cc2_scratch2) rfl
  have n01 : (Proc.scVector (cV L) (jV L)).devRef cc2_scratch1 ≠ (Proc.scVector (cV L) (jV L)).devRef cc2_scratch0 :=
    fun e => absurd (Proc.devRef_injective _ e) (show (cc2_scratch1 : Ref sig .scVector) ≠ cc2_scratch0 by decide)
  have n02 : (Proc.scVector (cV L) (jV L)).devRef cc2_scratch2 ≠ (Proc.scVector (cV L) (jV L)).devRef cc2_scratch0 :=
    fun e => absurd (Proc.devRef_injective _ e) (show (cc2_scratch2 : Ref sig .scVector) ≠ cc2_scratch0 by decide)
  have n12 : (Proc.scVector (cV L) (jV L)).devRef cc2_scratch2 ≠ (Proc.scVector (cV L) (jV L)).devRef cc2_scratch1 :=
    fun e => absurd (Proc.devRef_injective _ e) (show (cc2_scratch2 : Ref sig .scVector) ≠ cc2_scratch1 by decide)
  rw [SparseCore.bigSep_erase' (Finset.mem_erase.mpr ⟨n01, m1⟩), SparseCore.bigSep_erase' (Finset.mem_erase.mpr ⟨n12, Finset.mem_erase.mpr ⟨n02, m2⟩⟩)]

variable [FloatOps F]

set_option maxHeartbeats 1000000 in
/-- The issue of gather `j` into a row buffer: handed a share of the table, the buffer, row `j` of the fetched indices and
    the buffer's semaphore at zero, the task goes on with the stream in flight, which delivers the buffer at block `j` of
    the gathered table, and the rest back. -/
theorem issue (hpre : IxOK Ic) (r : Memref sig .scVector .vmem S128x128 .f32) (hr : r.IsWhole) (sem : DmaSem sig) (j : Fin 8) (n : ℕ) (hn : n = j.val)
    (h : ∀ a, (![n, 0] : Fin 2 → ℕ) a + S1x128.size a ≤ S8x128.size a)
    (hN : ∑ t, (r.slice (S128x128.rowRect gathers_S32768x128_S128x128.axis' t) (S128x128.stride_rowRect gathers_S32768x128_S128x128.axis' t)).view.dmaCredit = r.view.dmaCredit)
    (q : PosShare TreeShare) (fd : Buf (Elt F) (r.view.loc (thr d L)))
    {k : PUnit → Prog (TpuEff nD τ sig (Elt F) Λ₀ (thr d L).2) PUnit} {Q : PUnit → sProp 𝕄}
    {hp : (thr d L).2.kind = .scVector} {hsrc : (hAllK).view.WordExact} {he : EltTy.f32.bits = 32} {hsp : Space.hbm = .hbm ∨ Space.hbm = .shared} {hrw : S32768x128.StreamRows 0}
    {hnn : S128.numel = S128x128.size gathers_S32768x128_S128x128.axis'} :
    iprop(((hAllK).view.loc (thr d L) ↦[(hAllK).view.set]{q} Hc d) ∗ (r.view.loc (thr d L) ↦[r.view.set]{fullShare} fd)
        ∗ ((lK n h).view.loc (thr d L) ↦[(lK n h).view.set]{fullShare} ixBlk (F := F) (Ic d) (wL L)) ∗ semVal (thr d L, SemLoc.dma sem) 0)
      ⊢ iprop((Transfers.Flight countersEmb (thr d L) (.dma sem) (default : HIx 1) r.view.dmaCredit
                iprop((r.view.loc (thr d L) ↦[r.view.set]{fullShare} (r.view.write (Elt F) fd (gatBlk (F := F) (Hc d) (Ic d) (blk (wL L) j)) Finset.univ))
                  ∗ ((hAllK).view.loc (thr d L) ↦[(hAllK).view.set]{q} Hc d)
                  ∗ ((lK n h).view.loc (thr d L) ↦[(lK n h).view.set]{fullShare} ixBlk (F := F) (Ic d) (wL L)))
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp hAllK r gathers_S32768x128_S128x128 (lK n h) hnn sem hsrc he hsp hrw >>= k) Q) := by
  have key := SparseCore.wp_indirectGatherLocal (defs := defs₀ (F := F)) countersEmb 𝒱₀ (thr d L) none (Q := Q) (src := hAllK) (dst := r)
    (hg := gathers_S32768x128_S128x128) (offs := lK n h) (hn := hnn) (sem := sem) (hp := hp) (hsrc := hsrc) (he := he) (hsp := hsp) (hr := hrw) (k := k)
    (q := q) (qo := fullShare) (fs := Hc d) (fd := fd) (fo := ixBlk (F := F) (Ic d) (wL L)) (default : HIx 1) r.view.dmaCredit hN (by decide)
    (lK_inb Ic d hpre j n hn h (wL L))
  rw [payload_eq Hc Ic d hpre j n hn h (wL L) hnn] at key
  exact key

/-- The first buffer is every element of it. -/
theorem set_aV (f : Buf (Elt F) ((thr d L).loc cc2_scratch1)) :
    ((aV).view.loc (thr d L) ↦[(aV).view.set]{fullShare} f : sProp 𝕄) = (aV).view.loc (thr d L) ↦{fullShare} f := by
  rw [show (aV).view.set = Finset.univ from View.set_whole _]
/-- The second buffer is every element of it. -/
theorem set_bV (f : Buf (Elt F) ((thr d L).loc cc2_scratch2)) :
    ((bV).view.loc (thr d L) ↦[(bV).view.set]{fullShare} f : sProp 𝕄) = (bV).view.loc (thr d L) ↦{fullShare} f := by
  rw [show (bV).view.set = Finset.univ from View.set_whole _]

/-- A row buffer after its gather holds the gathered rows. -/
theorem pts_aV (f g : Buf (Elt F) ((thr d L).loc cc2_scratch1)) :
    ((aV).view.loc (thr d L) ↦[(aV).view.set]{fullShare} (aV).view.write (Elt F) f g Finset.univ : sProp 𝕄) = (aV).view.loc (thr d L) ↦{fullShare} g := by
  rw [set_aV, View.write_whole_univ]
/-- Owning the second buffer, in the two forms. -/
theorem pts_bV (f g : Buf (Elt F) ((thr d L).loc cc2_scratch2)) :
    ((bV).view.loc (thr d L) ↦[(bV).view.set]{fullShare} (bV).view.write (Elt F) f g Finset.univ : sProp 𝕄) = (bV).view.loc (thr d L) ↦{fullShare} g := by
  rw [set_bV, View.write_whole_univ]

/-- The index scratch after its fetch holds the tile's eight rows of indices, row by row. -/
theorem s_fetched (f : Buf (Elt F) ((thr d L).loc cc2_scratch0)) (g : S8x128.Idx → Elt F .i32) (hg : g = (iRowK L).view.read (Elt F) (Ic d)) :
    ((sV).view.loc (thr d L) ↦{fullShare} (sV).view.write (Elt F) f g Finset.univ : sProp 𝕄)
      ⊢ bigSep Finset.univ fun j : Fin 8 => (thr d L).loc cc2_scratch0 ↦[sRowSet j]{fullShare} ixBlk (F := F) (Ic d) (wL L) := by
  rw [View.write_whole_univ, hg, read_iRowK]
  exact Entails.of_eq (sPts_rows d L _)

/-- A gather's rows into the first buffer are one buffer's worth. -/
theorem hN_a : ∑ t, ((aV).slice (S128x128.rowRect gathers_S32768x128_S128x128.axis' t) (S128x128.stride_rowRect gathers_S32768x128_S128x128.axis' t)).view.dmaCredit
    = (aV).view.dmaCredit := by decide +kernel
/-- A gather's rows into the second buffer are one buffer's worth. -/
theorem hN_b : ∑ t, ((bV).slice (S128x128.rowRect gathers_S32768x128_S128x128.axis' t) (S128x128.stride_rowRect gathers_S32768x128_S128x128.axis' t)).view.dmaCredit
    = (bV).view.dmaCredit := by decide +kernel

/-- A block of the result after its write-out from a row buffer that held its gathered rows. -/
theorem oBlk_out (j : Fin 8) (b : BitVec 32) (hb : b = BitVec.ofNat 32 j.val) (h : ∀ a, (k2_off2 L b) a + S128x128.size a ≤ S32768x128.size a)
    (f : Buf (Elt F) (oLoc d)) (g : S128x128.Idx → Elt F .f32) (hg : g = gatBlk (F := F) (Hc d) (Ic d) (blk (wL L) j)) :
    ((oK L b h).view.loc (thr d L) ↦[(oK L b h).view.set]{fullShare} (oK L b h).view.writes (Elt F) f [⟨Rect.whole S128x128, g⟩] : sProp 𝕄)
      ⊢ oBlkPts d (blk (wL L) j) (gat (F := F) (Hc d) (Ic d)) := by
  rw [← View.write_univ_eq_writes_whole, View.writes_nil, hg]
  exact Entails.of_eq (pts_oK_gat Hc Ic d L j b hb h f)

/-- What a write-out reads off a row buffer is the buffer. -/
theorem read_aV (g : Buf (Elt F) ((thr d L).loc cc2_scratch1)) :
    (ReadAs.same.apply (View.read (Elt F) (aV).view g) : S128x128.Idx → Elt F .f32) = g := View.read_whole _ _
/-- Reading the second buffer. -/
theorem read_bV (g : Buf (Elt F) ((thr d L).loc cc2_scratch2)) :
    (ReadAs.same.apply (View.read (Elt F) (bV).view g) : S128x128.Idx → Elt F .f32) = g := View.read_whole _ _

/-- Row `j` of the index scratch, as the stream addresses it. -/
theorem l_in (j : Fin 8) (n : ℕ) (hn : n = j.val) (h : ∀ a, (![n, 0] : Fin 2 → ℕ) a + S1x128.size a ≤ S8x128.size a)
    (f : Buf (Elt F) ((thr d L).loc cc2_scratch0)) :
    ((thr d L).loc cc2_scratch0 ↦[sRowSet j]{fullShare} f : sProp 𝕄) ⊢ (lK n h).view.loc (thr d L) ↦[(lK n h).view.set]{fullShare} f :=
  Entails.of_eq (pts_lK d L j n hn h f).symm

/-- Row `j` of the index scratch, back from the stream. -/
theorem l_out (j : Fin 8) (n : ℕ) (hn : n = j.val) (h : ∀ a, (![n, 0] : Fin 2 → ℕ) a + S1x128.size a ≤ S8x128.size a)
    (f : Buf (Elt F) ((thr d L).loc cc2_scratch0)) :
    ((lK n h).view.loc (thr d L) ↦[(lK n h).view.set]{fullShare} f : sProp 𝕄) ⊢ (thr d L).loc cc2_scratch0 ↦[sRowSet j]{fullShare} f :=
  Entails.of_eq (pts_lK d L j n hn h f)

set_option maxHeartbeats 8000000 in
/-- ONE TILE'S TASK: handed its share of the table, its eight rows of indices and its eight blocks of the result, it
    ends with those blocks at the gathered table's elements. -/
theorem tile_body (hF : (K (F := F)).Facts) (hpre : IxOK Ic) (O : CellTallies nD τ sig (HIx 1)) (W : Waits sig (HIx 1)) (hO : ∀ g, O g none = 0) :
    iprop(levAts (K (F := F)).L (K (F := F)).lev ∗ emp
        ∗ taskPts Hc Ic d (Oc d) (wL L)
        ∗ scopedBufs (thr d L) ∗ scopedSems0 (thr d L) ∗ owes (thr d L) O W)
      ⊢ wp frame (wpE (defs₀ (F := F)) 𝒱₀ (thr d L) none) Set.univ
          (cc2_gk L hV (Memref.isWhole_whole _) iV (Memref.isWhole_whole _) oV (Memref.isWhole_whole _)
            sV (Memref.isWhole_whole _) aV (Memref.isWhole_whole _) bV (Memref.isWhole_whole _) cc2_scratch3 cc2_scratch4
            cc2_scoped0 cc2_scoped1 cc2_scoped2 cc2_scoped3 cc2_scoped4 cc2_scoped5 cc2_scoped6 cc2_scoped7 cc2_scoped8)
          fun _ => iprop(taskPts Hc Ic d (gat (Hc d) (Ic d)) (wL L)
            ∗ scopedBufs (thr d L) ∗ scopedSems0 (thr d L)
            ∗ ∃ W', ⌜∀ p ∈ W', p ∈ W ∨ p.2 = none⌝ ∗ owes (thr d L) O W') := by
  unfold cc2_gk k2_part1 k2_part2 k2_part3 k2_part4
  unfold taskPts
  rw [(K (F := F)).scopedBufs_V hF d (cV L) (jV L), SparseCore.Cfg.scopedSems0_V (Val := Elt F) d (cV L) (jV L), ownSems0_V, ownBufs_V, fin8, fin8]
  iintro ⟨#Hlv, -, ⟨Hh, Hi, Ho0, Ho1, Ho2, Ho3, Ho4, Ho5, Ho6, Ho7⟩, ⟨⟨%fs, Hs⟩, ⟨%fa, Ha⟩, ⟨%fb, Hb⟩, Hbufs⟩,
    ⟨⟨HsA, HsB, Hs0, Hs1, Hs2, Hs3, Hs4, Hs5, Hs6, Hs7, Hs8⟩, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iRowK (F := F) d L _).symm) $$ Hi
  ihave Ho0' := (Entails.of_eq (pts_oK (F := F) d L 0 0#32 rfl (k2_off2_inb L 0) _).symm) $$ Ho0
  ihave Ho1' := (Entails.of_eq (pts_oK (F := F) d L 1 1#32 rfl (k2_off2_inb L 1) _).symm) $$ Ho1
  ihave Ho2' := (Entails.of_eq (pts_oK (F := F) d L 2 2#32 rfl (k2_off2_inb L 2) _).symm) $$ Ho2
  ihave Ho3' := (Entails.of_eq (pts_oK (F := F) d L 3 3#32 rfl (k2_off2_inb L 3) _).symm) $$ Ho3
  ihave Ho4' := (Entails.of_eq (pts_oK (F := F) d L 4 4#32 rfl (k2_off2_inb L 4) _).symm) $$ Ho4
  ihave Ho5' := (Entails.of_eq (pts_oK (F := F) d L 5 5#32 rfl (k2_off2_inb L 5) _).symm) $$ Ho5
  ihave Ho6' := (Entails.of_eq (pts_oK (F := F) d L 6 6#32 rfl (k2_off2_inb L 6) _).symm) $$ Ho6
  ihave Ho7' := (Entails.of_eq (pts_oK (F := F) d L 7 7#32 rfl (k2_off2_inb L 7) _).symm) $$ Ho7
  ihave Hs' := (Entails.of_eq (show ((thr d L).loc cc2_scratch0 ↦{fullShare} fs : sProp 𝕄) = (sV).view.loc (thr d L) ↦{fullShare} fs from rfl)) $$ Hs
  sl_exec
  ihave Hsr := (s_fetched (F := F) Ic d L fs (tile_body.sl.dma0 Ic d L) rfl) $$ Hs'
  ihave Hsr := (Entails.of_eq (fin8 _)) $$ Hsr
  icases Hsr with ⟨Hl0, Hl1, Hl2, Hl3, Hl4, Hl5, Hl6, Hl7⟩
  ihave Hh := (pointsTo_share (PosShare.mem_left_op_right (hq (wL L)))).1 $$ Hh
  icases Hh with ⟨HhA, HhB⟩
  ihave HhA := (Entails.of_eq (pts_hAllK (F := F) d L _ _).symm) $$ HhA
  ihave HhB := (Entails.of_eq (pts_hAllK (F := F) d L _ _).symm) $$ HhB
  ihave HrA := (Entails.of_eq (set_aV (F := F) d L fa).symm) $$ Ha
  ihave HrB := (Entails.of_eq (set_bV (F := F) d L fb).symm) $$ Hb
  ihave Hl0 := (l_in (F := F) d L 0 0 rfl inb_S8x128_S1x128_0_0 _) $$ Hl0
  ihave Hl1 := (l_in (F := F) d L 1 1 rfl inb_S8x128_S1x128_1_0 _) $$ Hl1
  ihave Hl2 := (l_in (F := F) d L 2 2 rfl inb_S8x128_S1x128_2_0 _) $$ Hl2
  ihave Hl3 := (l_in (F := F) d L 3 3 rfl inb_S8x128_S1x128_3_0 _) $$ Hl3
  ihave Hl4 := (l_in (F := F) d L 4 4 rfl inb_S8x128_S1x128_4_0 _) $$ Hl4
  ihave Hl5 := (l_in (F := F) d L 5 5 rfl inb_S8x128_S1x128_5_0 _) $$ Hl5
  ihave Hl6 := (l_in (F := F) d L 6 6 rfl inb_S8x128_S1x128_6_0 _) $$ Hl6
  ihave Hl7 := (l_in (F := F) d L 7 7 rfl inb_S8x128_S1x128_7_0 _) $$ Hl7
  iapply (issue Hc Ic d L hpre aV (Memref.isWhole_whole _) cc2_scratch3.sem 0 0 rfl inb_S8x128_S1x128_0_0 hN_a _ _) $$ [HhA HrA Hl0 HsA]
  · isplitl [HhA]; · iexact HhA
    isplitl [HrA]; · iexact HrA
    isplitl [Hl0]; · iexact Hl0
    iexact HsA
  iintro HfA
  sl_exec
  iapply (issue Hc Ic d L hpre bV (Memref.isWhole_whole _) cc2_scratch4.sem 1 1 rfl inb_S8x128_S1x128_1_0 hN_b _ _) $$ [HhB HrB Hl1 HsB]
  · isplitl [HhB]; · iexact HhB
    isplitl [HrB]; · iexact HrB
    isplitl [Hl1]; · iexact Hl1
    iexact HsB
  iintro HfB
  sl_exec
  iapply (Transfers.wp_waitLocalO countersEmb 𝒱₀ (thr d L) none (default : HIx 1) (rfl : (aV).view.dmaCredit = _)) $$ [HfA HO]
  · isplitl [HfA]; · iexact HfA
    isplitl [HO]; · iexact HO
    iapply (Transfers.MayWaits.elim (SemLoc.dma cc2_scratch3.sem)) $$ Hmw
  iintro ⟨⟨HrA, HhA, Hl0⟩, HsA, HO⟩
  ihave HrA := (Entails.of_eq (pts_aV (F := F) d L _ _)) $$ HrA
  sl_exec
  ihave HrA := (Entails.of_eq (set_aV (F := F) d L _).symm) $$ HrA
  iapply (issue Hc Ic d L hpre aV (Memref.isWhole_whole _) cc2_scratch3.sem 2 2 rfl inb_S8x128_S1x128_2_0 hN_a _ _) $$ [HhA HrA Hl2 HsA]
  · isplitl [HhA]; · iexact HhA
    isplitl [HrA]; · iexact HrA
    isplitl [Hl2]; · iexact Hl2
    iexact HsA
  iintro HfA
  sl_exec
  iapply (Transfers.wp_waitLocalO countersEmb 𝒱₀ (thr d L) none (default : HIx 1) (rfl : (bV).view.dmaCredit = _)) $$ [HfB HO]
  · isplitl [HfB]; · iexact HfB
    isplitl [HO]; · iexact HO
    iapply (Transfers.MayWaits.elim (SemLoc.dma cc2_scratch4.sem)) $$ Hmw
  iintro ⟨⟨HrB, HhB, Hl1⟩, HsB, HO⟩
  ihave HrB := (Entails.of_eq (pts_bV (F := F) d L _ _)) $$ HrB
  sl_exec
  ihave HrB := (Entails.of_eq (set_bV (F := F) d L _).symm) $$ HrB
  iapply (issue Hc Ic d L hpre bV (Memref.isWhole_whole _) cc2_scratch4.sem 3 3 rfl inb_S8x128_S1x128_3_0 hN_b _ _) $$ [HhB HrB Hl3 HsB]
  · isplitl [HhB]; · iexact HhB
    isplitl [HrB]; · iexact HrB
    isplitl [Hl3]; · iexact Hl3
    iexact HsB
  iintro HfB
  sl_exec
  iapply (Transfers.wp_waitLocalO countersEmb 𝒱₀ (thr d L) none (default : HIx 1) (rfl : (aV).view.dmaCredit = _)) $$ [HfA HO]
  · isplitl [HfA]; · iexact HfA
    isplitl [HO]; · iexact HO
    iapply (Transfers.MayWaits.elim (SemLoc.dma cc2_scratch3.sem)) $$ Hmw
  iintro ⟨⟨HrA, HhA, Hl2⟩, HsA, HO⟩
  ihave HrA := (Entails.of_eq (pts_aV (F := F) d L _ _)) $$ HrA
  sl_exec
  ihave HrA := (Entails.of_eq (set_aV (F := F) d L _).symm) $$ HrA
  iapply (issue Hc Ic d L hpre aV (Memref.isWhole_whole _) cc2_scratch3.sem 4 4 rfl inb_S8x128_S1x128_4_0 hN_a _ _) $$ [HhA HrA Hl4 HsA]
  · isplitl [HhA]; · iexact HhA
    isplitl [HrA]; · iexact HrA
    isplitl [Hl4]; · iexact Hl4
    iexact HsA
  iintro HfA
  sl_exec
  iapply (Transfers.wp_waitLocalO countersEmb 𝒱₀ (thr d L) none (default : HIx 1) (rfl : (bV).view.dmaCredit = _)) $$ [HfB HO]
  · isplitl [HfB]; · iexact HfB
    isplitl [HO]; · iexact HO
    iapply (Transfers.MayWaits.elim (SemLoc.dma cc2_scratch4.sem)) $$ Hmw
  iintro ⟨⟨HrB, HhB, Hl3⟩, HsB, HO⟩
  ihave HrB := (Entails.of_eq (pts_bV (F := F) d L _ _)) $$ HrB
  sl_exec
  ihave HrB := (Entails.of_eq (set_bV (F := F) d L _).symm) $$ HrB
  iapply (issue Hc Ic d L hpre bV (Memref.isWhole_whole _) cc2_scratch4.sem 5 5 rfl inb_S8x128_S1x128_5_0 hN_b _ _) $$ [HhB HrB Hl5 HsB]
  · isplitl [HhB]; · iexact HhB
    isplitl [HrB]; · iexact HrB
    isplitl [Hl5]; · iexact Hl5
    iexact HsB
  iintro HfB
  sl_exec
  iapply (Transfers.wp_waitLocalO countersEmb 𝒱₀ (thr d L) none (default : HIx 1) (rfl : (aV).view.dmaCredit = _)) $$ [HfA HO]
  · isplitl [HfA]; · iexact HfA
    isplitl [HO]; · iexact HO
    iapply (Transfers.MayWaits.elim (SemLoc.dma cc2_scratch3.sem)) $$ Hmw
  iintro ⟨⟨HrA, HhA, Hl4⟩, HsA, HO⟩
  ihave HrA := (Entails.of_eq (pts_aV (F := F) d L _ _)) $$ HrA
  sl_exec
  ihave HrA := (Entails.of_eq (set_aV (F := F) d L _).symm) $$ HrA
  iapply (issue Hc Ic d L hpre aV (Memref.isWhole_whole _) cc2_scratch3.sem 6 6 rfl inb_S8x128_S1x128_6_0 hN_a _ _) $$ [HhA HrA Hl6 HsA]
  · isplitl [HhA]; · iexact HhA
    isplitl [HrA]; · iexact HrA
    isplitl [Hl6]; · iexact Hl6
    iexact HsA
  iintro HfA
  sl_exec
  iapply (Transfers.wp_waitLocalO countersEmb 𝒱₀ (thr d L) none (default : HIx 1) (rfl : (bV).view.dmaCredit = _)) $$ [HfB HO]
  · isplitl [HfB]; · iexact HfB
    isplitl [HO]; · iexact HO
    iapply (Transfers.MayWaits.elim (SemLoc.dma cc2_scratch4.sem)) $$ Hmw
  iintro ⟨⟨HrB, HhB, Hl5⟩, HsB, HO⟩
  ihave HrB := (Entails.of_eq (pts_bV (F := F) d L _ _)) $$ HrB
  sl_exec
  ihave HrB := (Entails.of_eq (set_bV (F := F) d L _).symm) $$ HrB
  iapply (issue Hc Ic d L hpre bV (Memref.isWhole_whole _) cc2_scratch4.sem 7 7 rfl inb_S8x128_S1x128_7_0 hN_b _ _) $$ [HhB HrB Hl7 HsB]
  · isplitl [HhB]; · iexact HhB
    isplitl [HrB]; · iexact HrB
    isplitl [Hl7]; · iexact Hl7
    iexact HsB
  iintro HfB
  sl_exec
  iapply (Transfers.wp_waitLocalO countersEmb 𝒱₀ (thr d L) none (default : HIx 1) (rfl : (aV).view.dmaCredit = _)) $$ [HfA HO]
  · isplitl [HfA]; · iexact HfA
    isplitl [HO]; · iexact HO
    iapply (Transfers.MayWaits.elim (SemLoc.dma cc2_scratch3.sem)) $$ Hmw
  iintro ⟨⟨HrA, HhA, Hl6⟩, HsA, HO⟩
  ihave HrA := (Entails.of_eq (pts_aV (F := F) d L _ _)) $$ HrA
  sl_exec
  iapply (Transfers.wp_waitLocalO countersEmb 𝒱₀ (thr d L) none (default : HIx 1) (rfl : (bV).view.dmaCredit = _)) $$ [HfB HO]
  · isplitl [HfB]; · iexact HfB
    isplitl [HO]; · iexact HO
    iapply (Transfers.MayWaits.elim (SemLoc.dma cc2_scratch4.sem)) $$ Hmw
  iintro ⟨⟨HrB, HhB, Hl7⟩, HsB, HO⟩
  ihave HrB := (Entails.of_eq (pts_bV (F := F) d L _ _)) $$ HrB
  sl_exec
  sl_step
  isplitl [HhA HhB Hi' Ho0' Ho1' Ho2' Ho3' Ho4' Ho5' Ho6' Ho7']
  · isplitl [HhA HhB]
    · ihave HhA := (Entails.of_eq (pts_hAllK (F := F) d L _ _)) $$ HhA
      ihave HhB := (Entails.of_eq (pts_hAllK (F := F) d L _ _)) $$ HhB
      iapply (pointsTo_share (PosShare.mem_left_op_right (hq (wL L)))).2
      isplitl [HhA] <;> iassumption
    isplitl [Hi']; · iapply (Entails.of_eq (pts_iRowK (F := F) d L _)); iexact Hi'
    isplitl [Ho0']; · iapply (oBlk_out (F := F) Hc Ic d L 0 0#32 rfl (k2_off2_inb L 0) (Oc d) (tile_body.sl.dma0_1 Hc Ic d L) (read_aV (F := F) d L _)); iexact Ho0'
    isplitl [Ho1']; · iapply (oBlk_out (F := F) Hc Ic d L 1 1#32 rfl (k2_off2_inb L 1) (Oc d) (tile_body.sl.dma0_2 Hc Ic d L) (read_bV (F := F) d L _)); iexact Ho1'
    isplitl [Ho2']; · iapply (oBlk_out (F := F) Hc Ic d L 2 2#32 rfl (k2_off2_inb L 2) (Oc d) (tile_body.sl.dma0_3 Hc Ic d L) (read_aV (F := F) d L _)); iexact Ho2'
    isplitl [Ho3']; · iapply (oBlk_out (F := F) Hc Ic d L 3 3#32 rfl (k2_off2_inb L 3) (Oc d) (tile_body.sl.dma0_4 Hc Ic d L) (read_bV (F := F) d L _)); iexact Ho3'
    isplitl [Ho4']; · iapply (oBlk_out (F := F) Hc Ic d L 4 4#32 rfl (k2_off2_inb L 4) (Oc d) (tile_body.sl.dma0_5 Hc Ic d L) (read_aV (F := F) d L _)); iexact Ho4'
    isplitl [Ho5']; · iapply (oBlk_out (F := F) Hc Ic d L 5 5#32 rfl (k2_off2_inb L 5) (Oc d) (tile_body.sl.dma0_6 Hc Ic d L) (read_bV (F := F) d L _)); iexact Ho5'
    isplitl [Ho6']; · iapply (oBlk_out (F := F) Hc Ic d L 6 6#32 rfl (k2_off2_inb L 6) (Oc d) (tile_body.sl.dma0_7 Hc Ic d L) (read_aV (F := F) d L _)); iexact Ho6'
    iapply (oBlk_out (F := F) Hc Ic d L 7 7#32 rfl (k2_off2_inb L 7) (Oc d) (tile_body.sl.dma0_8 Hc Ic d L) (read_bV (F := F) d L _)); iexact Ho7'
  isplitl [Hl0 Hl1 Hl2 Hl3 Hl4 Hl5 Hl6 Hl7 HrA HrB Hbufs]
  · isplitl [Hl0 Hl1 Hl2 Hl3 Hl4 Hl5 Hl6 Hl7]
    · iexists ixBlk (F := F) (Ic d) (wL L)
      iapply (Entails.of_eq ((sPts_rows (F := F) d L _).trans (fin8 _)).symm)
      isplitl [Hl0]; · iapply (l_out (F := F) d L 0 0 rfl inb_S8x128_S1x128_0_0 _); iexact Hl0
      isplitl [Hl1]; · iapply (l_out (F := F) d L 1 1 rfl inb_S8x128_S1x128_1_0 _); iexact Hl1
      isplitl [Hl2]; · iapply (l_out (F := F) d L 2 2 rfl inb_S8x128_S1x128_2_0 _); iexact Hl2
      isplitl [Hl3]; · iapply (l_out (F := F) d L 3 3 rfl inb_S8x128_S1x128_3_0 _); iexact Hl3
      isplitl [Hl4]; · iapply (l_out (F := F) d L 4 4 rfl inb_S8x128_S1x128_4_0 _); iexact Hl4
      isplitl [Hl5]; · iapply (l_out (F := F) d L 5 5 rfl inb_S8x128_S1x128_5_0 _); iexact Hl5
      isplitl [Hl6]; · iapply (l_out (F := F) d L 6 6 rfl inb_S8x128_S1x128_6_0 _); iexact Hl6
      iapply (l_out (F := F) d L 7 7 rfl inb_S8x128_S1x128_7_0 _); iexact Hl7
    isplitl [HrA]; · iexists _; iexact HrA
    isplitl [HrB]; · iexists _; iexact HrB
    iexact Hbufs
  isplitl [HsA HsB Hs0 Hs1 Hs2 Hs3 Hs4 Hs5 Hs6 Hs7 Hs8 Hsems]
  · isplitl [HsA HsB Hs0 Hs1 Hs2 Hs3 Hs4 Hs5 Hs6 Hs7 Hs8]
    · isplitl [HsA]; · iexact HsA
      isplitl [HsB]; · iexact HsB
      isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    iexact Hsems
  iexists _; isplitr
  swap; · iexact HO
  ipureintro; intro p hp
  simp only [Finset.mem_insert] at hp
  repeat' (first | exact .inl hp | (rcases hp with hp | hp; · exact .inr (hp ▸ rfl)))

/-! ## The tile's obligation to the launch -/

/-- A tile by its core and its number. -/
def coordsV (c : Fin (grid2.bound 0)) (s : Fin (grid2.bound 1)) : grid2.Coords :=
  fun | 0 => c | 1 => s | ⟨_ + 2, h⟩ => absurd h (Nat.not_lt.2 (Nat.le_add_left _ _))

/-- The tile's body. -/
theorem defs₀_vector (c : Fin τ.nSC) (s : Fin τ.nSub) :
    defs₀ (F := F) (.scVector c s) 2 ()
      = SparseCore.onTile hcore2 hsub2 (fun c s => cc2_gk (coordsV c s)
          hV (Memref.isWhole_whole _) iV (Memref.isWhole_whole _) oV (Memref.isWhole_whole _)
          sV (Memref.isWhole_whole _) aV (Memref.isWhole_whole _) bV (Memref.isWhole_whole _) cc2_scratch3 cc2_scratch4
          cc2_scoped0 cc2_scoped1 cc2_scoped2 cc2_scoped3 cc2_scoped4 cc2_scoped5 cc2_scoped6 cc2_scoped7 cc2_scoped8) ⟨⟩ c s := rfl

omit [FloatOps F] in
/-- A task's end, in the launch's form. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile of the launch keeps the handshake's promise: from `taskPts` at the old result to `taskPts` at the gathered rows. -/
theorem tileObl (hpre : IxOK Ic) : (K (F := F)).TileObl (D (F := F)) 𝒱 (P Hc Ic Oc) v₀ 0 := by
  intro d c i O W hO _ _
  simp only [show (P Hc Ic Oc).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body Hc Ic Oc d (coordsV ⟨_, hci.1⟩ ⟨_, hci.2⟩) facts hpre O W hO).trans (wp_mono frame _ _ fun _ => obl_post)

end Tile

/-! ## A SparseCore's part, and the whole arrays, split over the tasks -/

/-- Sixteen tiles. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- Two cores. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's part is its sixteen tiles' parts. -/
theorem vecSplit : (K (F := F)).VecSplit' (P Hc Ic Oc) 0 := by
  intro d c
  show (bigSep Finset.univ fun i : Fin 16 => taskPts Hc Ic d (Oc d) (wid (Fin.cast nCore_zero c) i)) ⊢ |={Set.univ}=> iprop(
      (bigSep Finset.univ fun i : Fin ((K (F := F)).nSub 0) => taskPts Hc Ic d (Oc d) (wid (Fin.cast nCore_zero c) (Fin.cast nSub_zero i)))
      ∗ ((bigSep Finset.univ fun i : Fin ((K (F := F)).nSub 0) => taskPts Hc Ic d (gat (Hc d) (Ic d)) (wid (Fin.cast nCore_zero c) (Fin.cast nSub_zero i)))
          -∗ bigSep Finset.univ fun i : Fin 16 => taskPts Hc Ic d (gat (Hc d) (Ic d)) (wid (Fin.cast nCore_zero c) i)))
  rw [bigSep_tiles (F := F) (fun i => taskPts Hc Ic d (Oc d) (wid (Fin.cast nCore_zero c) i)),
    bigSep_tiles (F := F) (fun i => taskPts Hc Ic d (gat (Hc d) (Ic d)) (wid (Fin.cast nCore_zero c) i))]
  iintro H; imodintro
  isplitl [H]; · iexact H
  iintro H; iexact H

/-- Over the tasks by SparseCore and subcore is over the tasks. -/
theorem over_wid (Φ : Fin 32 → sProp 𝕄) :
    (bigSep Finset.univ fun c : Fin 2 => bigSep Finset.univ fun i : Fin 16 => Φ (wid c i)) = bigSep Finset.univ Φ := by
  rw [bigSep_univ_equiv ((Equiv.prodComm (Fin 2) (Fin 16)).trans (finProdFinEquiv (m := 16) (n := 2))) Φ, bigSep_univ_prod]
  exact bigSep_congr fun c _ => bigSep_congr fun i _ => congrArg Φ (Fin.ext (by show 2 * i.val + c.val = c.val + 2 * i.val; omega))

/-- Over the blocks by task is over the blocks. -/
theorem over_blk (Φ : Fin 256 → sProp 𝕄) :
    (bigSep Finset.univ fun w : Fin 32 => bigSep Finset.univ fun j : Fin 8 => Φ (blk w j)) = bigSep Finset.univ Φ := by
  rw [bigSep_univ_equiv (finProdFinEquiv (m := 32) (n := 8)) Φ, bigSep_univ_prod]
  exact bigSep_congr fun i _ => bigSep_congr fun c _ => congrArg Φ (Fin.ext (by show 8 * i.val + c.val = c.val + 8 * i.val; omega))

/-- A tile's row numbers are a part of the array. -/
theorem iRowSet_eq (w : Fin 32) : iRowSet w = (irow w).set := by
  show ((View.whole (main_v1_scv : Ref sig .scVector)).slice (irow w)).set = _
  rw [View.set_slice]; exact Finset.map_refl
/-- A block of the result is a part of it. -/
theorem oRowSet_eq (t : Fin 256) : oRowSet t = (orow t).set := by
  show ((View.whole (main_v2_scv : Ref sig .scVector)).slice (orow t)).set = _
  rw [View.set_slice]; exact Finset.map_refl
/-- The tiles' row numbers share no element. -/
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
/-- The blocks of the result share no element. -/
theorem orows_disjoint : ∀ i ∈ (Finset.univ : Finset (Fin 256)), ∀ j ∈ (Finset.univ : Finset (Fin 256)), i ≠ j → Disjoint (oRowSet i) (oRowSet j) :=
  fun i _ j _ h => by rw [oRowSet_eq, oRowSet_eq]; exact Rect.part_disjoint odiv h
/-- The tiles' row numbers are all of them. -/
theorem irows_cover : (Finset.univ : Finset (Fin 32)).biUnion iRowSet = Finset.univ :=
  (Finset.biUnion_congr rfl fun i _ => iRowSet_eq i).trans (Rect.biUnion_part idiv)
/-- The blocks are all of the result. -/
theorem orows_cover : (Finset.univ : Finset (Fin 256)).biUnion oRowSet = Finset.univ :=
  (Finset.biUnion_congr rfl fun i _ => oRowSet_eq i).trans (Rect.biUnion_part odiv)

/-- Owning the row numbers is owning every tile's. -/
theorem iPts_rows (d : Dev nD) (f : Buf (Elt F) (iLoc d)) :
    (iLoc d ↦{fullShare} f : sProp 𝕄) = bigSep Finset.univ fun w : Fin 32 => iLoc d ↦[iRowSet w]{fullShare} f := by
  rw [← pointsTo_biUnion Finset.univ (ℓ := iLoc d) iRowSet irows_disjoint, irows_cover]
/-- Owning the result is owning every block. -/
theorem oPts_rows (d : Dev nD) (f : Buf (Elt F) (oLoc d)) :
    (oLoc d ↦{fullShare} f : sProp 𝕄) = bigSep Finset.univ fun t : Fin 256 => oBlkPts d t f := by
  rw [← pointsTo_biUnion Finset.univ (ℓ := oLoc d) oRowSet orows_disjoint, orows_cover]
/-- Owning the table is owning every tile's share. -/
theorem hPts_shares (d : Dev nD) (f : Buf (Elt F) (hLoc d)) :
    (hLoc d ↦{fullShare} f : sProp 𝕄) = bigSep Finset.univ fun w : Fin 32 => hLoc d ↦{hq w} f :=
  ShareLeaves.pointsTo_leaves Finset.univ f 5 fullShare

/-- The table, the indices and the result, whole, are what the two SparseCores are handed. -/
theorem all_tasks (d : Dev nD) (f : Buf (Elt F) (oLoc d)) :
    (bigSep Finset.univ fun c : Fin ((K (F := F)).nCore 0) => bigSep Finset.univ fun i : Fin 16 => taskPts Hc Ic d f (wid (Fin.cast nCore_zero c) i))
      = iprop((hLoc d ↦{fullShare} Hc d) ∗ (iLoc d ↦{fullShare} Ic d) ∗ oLoc d ↦{fullShare} f) := by
  rw [bigSep_cores (F := F) (fun c => bigSep Finset.univ fun i : Fin 16 => taskPts Hc Ic d f (wid c i)),
    over_wid (F := F) (taskPts Hc Ic d f), bigSep_sep', bigSep_sep', over_blk (F := F) fun t => oBlkPts d t f,
    hPts_shares, iPts_rows, oPts_rows]

end Cert.Proof.Gather

end
-- ==== Proof.Bodies.lean ====
/-
  What the two TensorCore bodies do to the memrefs they are handed: the block sorter reads one memref and fills two, the
  merge tail reads two and fills one.
-/
module

public import proofs.«01_k».proof.Proof.Net
public import Idealize.ShloMosaic.Lib.Pipeline.Kit
public import Idealize.ShloMosaic.Lib.Pipeline.ValueKit
public import Idealize.ShloMosaic.Lib.VecWindow
public import Idealize.ShloMosaic.Lib.Tactic

@[expose] public section

set_option maxRecDepth 16384

noncomputable section

namespace Cert.Proof.Net

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
variable {Ix : Type} [DecidableEq Ix] {U : Type} [URA U]

local notation "𝕄" => MT nD τ sig Ix (Elt F) ℕ U ℕ

/-- A store of everything a view shows is then what it shows. -/
theorem read_full {S : Shape} {e : EltTy} {sp : Space} (v : View sig .tc sp S e) (f : v.ty.Contents (Elt F)) {off : Fin S.rank → ℕ}
    (h0 : off = fun _ => 0) (inb : ∀ a, off a + S.size a ≤ S.size a) (w : S.Idx → Elt F e) :
    v.read (Elt F) (v.writes (Elt F) f [⟨Rect.unit off S.size inb, w⟩]) = w :=
  (View.read_writes_eq_canon v f _ fun y => ⟨_, List.mem_singleton_self _, View.mem_set_unit_zero h0 inb y⟩).trans
    (View.canon_unit_zero h0 inb w)

/-- The offsets of a whole access are zero. -/
theorem zeros2 : (![0, 0] : Fin 2 → ℕ) = fun _ => 0 := by decide

/-- The row numbers the merge tree leaves, of every row's value and number. -/
def topRows (x : Vec F S32768x128 .f32) (y : Vec F S32768x128 .i32) : Vec F S256x128 .i32 :=
  (mergeAll ⟨shapeCast S32768x128 x Facts₀.shapeCasts_S32768x128_S32768x128, shapeCast S32768x128 y Facts₀.shapeCasts_S32768x128_S32768x128⟩).i

/-- The block sorter leaves its input as it was and fills its two results with the sorted block and its row numbers. -/
theorem sort_sound (c : Dev nD) (i : grid0.Coords) (arg1 : Memref sig .tc .vmem S256x128 .f32) (harg1 : arg1.IsWhole)
    (arg2 : Memref sig .tc .vmem S256x128 .f32) (harg2 : arg2.IsWhole)
    (arg3 : Memref sig .tc .vmem S256x128 .i32) (harg3 : arg3.IsWhole) (x : Vec F S256x128 .f32) (Q : PUnit → sProp 𝕄) :
    iprop(owns (c : Thread nD τ) arg1 fullShare x ∗ (∃ d, owns (c : Thread nD τ) arg2 fullShare d) ∗ (∃ d, owns (c : Thread nD τ) arg3 fullShare d)
        ∗ (iprop(owns (c : Thread nD τ) arg1 fullShare x
            ∗ owns (c : Thread nD τ) arg2 fullShare (sortBlock (F := F) (Scalar.muli (BitVec.ofNat 32 (i 0).val) 256#32) x).v
            ∗ owns (c : Thread nD τ) arg3 fullShare (sortBlock (F := F) (Scalar.muli (BitVec.ofNat 32 (i 0).val) 256#32) x).i) -∗ Q ⟨⟩))
      ⊢ wp frame (wpE (defs₀ (F := F)) Variants.none c none) Set.univ (cc0__sort_body i arg1 harg1 arg2 harg2 arg3 harg3) Q := by
  rw [sort_body]
  unfold owns
  iintro ⟨⟨%f1, %hf1, H1⟩, ⟨%d2, %f2, -, H2⟩, ⟨%d3, %f3, -, H3⟩, Hk⟩
  subst hf1
  sl_exec
  sl_step
  iapply Hk
  isplitl [H1]
  · iexists f1; isplitr; · ipureintro; rfl
    iexact H1
  isplitl [H2]
  · iexists _; isplitr
    swap; · iexact H2
    ipureintro
    rw [View.readAt_full]; exact read_full _ _ zeros2 _ _
  iexists _; isplitr
  swap; · iexact H3
  ipureintro
  rw [View.readAt_full]; exact read_full _ _ zeros2 _ _

/-- The merge tail leaves its two inputs as they were and fills its result with the row numbers the tree leaves. -/
theorem merge_sound (c : Dev nD) (arg0 : Memref sig .tc .vmem S32768x128 .f32) (harg0 : arg0.IsWhole)
    (arg1 : Memref sig .tc .vmem S32768x128 .i32) (harg1 : arg1.IsWhole)
    (arg2 : Memref sig .tc .vmem S256x128 .i32) (harg2 : arg2.IsWhole) (x : Vec F S32768x128 .f32) (y : Vec F S32768x128 .i32)
    (Q : PUnit → sProp 𝕄) :
    iprop(owns (c : Thread nD τ) arg0 fullShare x ∗ owns (c : Thread nD τ) arg1 fullShare y ∗ (∃ d, owns (c : Thread nD τ) arg2 fullShare d)
        ∗ (iprop(owns (c : Thread nD τ) arg0 fullShare x ∗ owns (c : Thread nD τ) arg1 fullShare y
            ∗ owns (c : Thread nD τ) arg2 fullShare (topRows (F := F) x y)) -∗ Q ⟨⟩))
      ⊢ wp frame (wpE (defs₀ (F := F)) Variants.none c none) Set.univ (cc1__merge_tail_body arg0 harg0 arg1 harg1 arg2 harg2) Q := by
  rw [merge_body]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.readAt_full, View.readAt_full]; exact read_full _ _ zeros2 _ _

end Cert.Proof.Net

end
-- ==== Proof.Regions.lean ====
/-
  The two TensorCore calls as regions of @main, once for every float semantics: the block sorter's pipeline leaves its
  two result arrays at the sorted blocks, the merge tail's leaves the array of row numbers at `topRows` of those. Each is
  entered and left owing what the later SparseCore call owes from the launch on.
-/
module

public import proofs.«01_k».proof.Proof.Gather
public import proofs.«01_k».proof.Proof.Bodies
public import proofs.«01_k».proof.Proof.Gen.KernelIdeal.Launch
public import proofs.«01_k».proof.Proof.Gen.KernelIdeal.Points
public import Idealize.ShloMosaic.Lib.Pipeline.Regions
public import Idealize.ShloMosaic.Lib.SparseCore.Threads

@[expose] public section

set_option maxRecDepth 16384

noncomputable section

namespace Cert.Proof.Gather

open Cert.KernelIdeal Cert.KernelIdeal.Gen
open Cert.Proof.Net (sortBlock topRows sort_sound merge_sound)

open Idealize.ShloMosaic Idealize.ShloMosaic.TcCoe
open Idealize.ShloMosaic.SparseCore (T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ)

/-- Block `k` of 256 rows of an array. -/
def rowBlock (h : S32768x128.Idx → Elt F .f32) (k : ℕ) : Vec F S256x128 .f32 := fun y =>
  h (ValueIdx.ix2 (Fin.ofNat 32768 (256 * k + (y 0).val)) (y 1))

/-- Block `k` sorted, with its row numbers. -/
def sortedBlock (h : S32768x128.Idx → Elt F .f32) (k : ℕ) : Net.Pair F (Net.Rows 256) :=
  sortBlock (F := F) (Scalar.muli (BitVec.ofNat 32 k) 256#32) (rowBlock h k)

/-- A row of the whole array as a row of its block. -/
def inBlock (x : S32768x128.Idx) : S256x128.Idx := ValueIdx.ix2 ⟨(x 0).val % 256, Nat.mod_lt _ (by decide)⟩ (x 1)

/-- The values and the row numbers the block sorter leaves. -/
def sortedV (h : S32768x128.Idx → Elt F .f32) : S32768x128.Idx → Elt F .f32 := fun x => (sortedBlock h ((x 0).val / 256)).v (inBlock x)
/-- The row numbers beside the sorted keys. -/
def sortedI (h : S32768x128.Idx → Elt F .f32) : S32768x128.Idx → Elt F .i32 := fun x => (sortedBlock h ((x 0).val / 256)).i (inBlock x)

/-- The row numbers the merge tail leaves. -/
def topI (h : S32768x128.Idx → Elt F .f32) : S256x128.Idx → Elt F .i32 := topRows (F := F) (sortedV h) (sortedI h)

/-- The block of the table the sorter's pipeline fetches at a point. -/
abbrev xstg (c : Dev nD) (t : Fin cfg0.N) : (cfg0.win 0).block.Idx → Elt F (cfg0.win 0).elt :=
  ((cfg0.win 0).blk t).view.read (Elt F) (m ((cfg0.win 0).arr.view.loc (c : Thread nD τ)))

/-- The sorted block at a point. -/
abbrev sstg (c : Dev nD) (t : Fin cfg0.N) : Net.Pair F (Net.Rows 256) :=
  sortBlock (F := F) (Scalar.muli (BitVec.ofNat 32 (grid0.coords t 0).val) 256#32) (xstg m c t)

/-- The pairs a core may have recorded before the SparseCore call. -/
abbrev recd (c : Dev nD) : Set (SemLoc sig × HIx 1) := {p | (K (F := F)).lev (T c, p.1) p.2 ≤ 0}

/-- The block sorter's proof data. -/
def dat0 (c : Dev nD) : Pipeline.Dat τ (Elt F) (HIx 1) ℕ UU ℕ cfg0 c where
  A w := m ((cfg0.win w).arr.view.loc (c : Thread nD τ))
  after w t := match w with
    | ⟨0, _⟩ => xstg m c t
    | ⟨1, _⟩ => (sstg m c t).v
    | ⟨2, _⟩ => (sstg m c t).i
  Φ _ := Pipeline.scopedRest spec0 c
  q _ := fullShare
  owed _ := (K (F := F)).Otc c 0
  recorded _ := recd (F := F) c

/-- The table, and the merge tail's two arguments, its result as launched. -/
abbrev Hm (d : Dev nD) : Buf (Elt F) (hLoc d) := m (hLoc d)

/-- The merge tail's proof data: its arguments at the sorted blocks. -/
def dat1 (c : Dev nD) : Pipeline.Dat τ (Elt F) (HIx 1) ℕ UU ℕ cfg1 c where
  A w := match w with
    | ⟨0, _⟩ => sortedV (F := F) (Hm m c)
    | ⟨1, _⟩ => sortedI (F := F) (Hm m c)
    | ⟨2, _⟩ => m (iLoc c)
  after w _ := match w with
    | ⟨0, _⟩ => sortedV (F := F) (Hm m c)
    | ⟨1, _⟩ => sortedI (F := F) (Hm m c)
    | ⟨2, _⟩ => topI (F := F) (Hm m c)
  Φ _ := Pipeline.scopedRest spec1 c
  q _ := fullShare
  owed _ := (K (F := F)).Otc c 0
  recorded _ := recd (F := F) c

/-- No call has a prefetched table. -/
abbrev adm : (p : Fin 2) → (pcfgs (F := F) p).Adm := fun p => (cfgs p).toPCfg_adm
/-- What the two calls hold. -/
def pdats : (p : Fin 2) → (c : Dev nD) → Pipeline.Dat τ (Elt F) (HIx 1) ℕ UU ℕ (Pipeline.pin (pcfgs (F := F)) adm p) c
  | 0 => dat0 m
  | 1 => dat1 m

/-! ## The bodies -/

/-- The block is fetched before a point of the sorter. -/
theorem before0_0 (c : Dev nD) (t : Fin cfg0.N) (d) : (dat0 m c).before 0 t d = xstg m c t := by
  rw [(dat0 m c).before_fetched 0 t (fetch0_0 t)]
  rfl

/-- The block stays. -/
theorem after0_0 (c : Dev nD) (t : Fin cfg0.N) : (dat0 m c).after 0 t = xstg m c t := by dsimp only [dat0]
/-- The sorted keys after a point. -/
theorem after0_1 (c : Dev nD) (t : Fin cfg0.N) : (dat0 m c).after 1 t = (sstg m c t).v := by dsimp only [dat0]
/-- Their row numbers after a point. -/
theorem after0_2 (c : Dev nD) (t : Fin cfg0.N) : (dat0 m c).after 2 t = (sstg m c t).i := by dsimp only [dat0]

/-- The sorter's body at a point. -/
theorem defs₀_row0 (t : Fin cfg0.N) : defs₀ (F := F) .tc cfg0.body (cfg0.bodyArgs t (cfg0.slots t)) = bodyAt0 t := by
  unfold defs₀; rfl
/-- The merge tail's body. -/
theorem defs₀_row1 (t : Fin cfg1.N) : defs₀ (F := F) .tc cfg1.body (cfg1.bodyArgs t (cfg1.slots t)) = bodyAt1 t := by
  unfold defs₀; rfl

/-- The block sorter's body at any point. -/
theorem body0 (c : Dev nD) : Pipeline.BodyObligation (dat0 (F := F) m c) (defs₀ (F := F)) 𝒱₀ none Set.univ := fun t => by
  rw [bigSep_W0, bigSep_W0, defs₀_row0]
  unfold bodyAt0
  simp only [before0_0]
  rw [show (dat0 m c).Φ t.succ = (dat0 m c).Φ t.castSucc from rfl,
    show (dat0 m c).owesAt none t.succ = (dat0 m c).owesAt none t.castSucc from rfl]
  iintro ⟨HΦ, HO, ⟨%d0, H0⟩, ⟨%d1, H1⟩, ⟨%d2, H2⟩⟩
  iapply (sort_sound (F := F) c (grid0.coords t) _ _ _ _ _ _ (xstg m c t) _)
  isplitl [H0]; · iexact H0
  isplitl [H1]; · iexists _; iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- A point's block of a windowed array starts at its row. -/
theorem index0 (t : Fin cfg0.N) (w : Fin 3) (a : Fin (win0 w).shape.rank) :
    (win0 w).index t a = if a.val = 0 then (grid0.coords t 0).val else 0 := by
  have hc : (grid0.coords t 0).val < 2 ^ 32 := lt_of_lt_of_le (grid0.coords t 0).isLt (by decide)
  match w, a with
  | 0, 0 => exact (BitVec.toNat_ofNat _ _).trans (Nat.mod_eq_of_lt hc)
  | 0, 1 => rfl
  | 1, 0 => exact (BitVec.toNat_ofNat _ _).trans (Nat.mod_eq_of_lt hc)
  | 1, 1 => rfl
  | 2, 0 => exact (BitVec.toNat_ofNat _ _).trans (Nat.mod_eq_of_lt hc)
  | 2, 1 => rfl

/-- The merge leaves the keys. -/
theorem after1_0 (c : Dev nD) (t : Fin cfg1.N) : (dat1 m c).after 0 t = sortedV (F := F) (Hm m c) := by dsimp only [dat1]
/-- The merge leaves the row numbers it reads. -/
theorem after1_1 (c : Dev nD) (t : Fin cfg1.N) : (dat1 m c).after 1 t = sortedI (F := F) (Hm m c) := by dsimp only [dat1]
/-- The row numbers the merge writes. -/
theorem after1_2 (c : Dev nD) (t : Fin cfg1.N) : (dat1 m c).after 2 t = topI (F := F) (Hm m c) := by dsimp only [dat1]

/-! ## What the arrays end at -/

/-- A point's number. -/
theorem coords0 (t : Fin cfg0.N) : (grid0.coords t 0).val = t.val := by
  rw [Pipeline.Grid.coords_val t 0 (S := 1) (B := 128) (by decide) rfl, Nat.div_one]
  exact Nat.mod_eq_of_lt (lt_of_lt_of_eq t.isLt N_0)

/-- Where row `y` of block `k` lies in the table. -/
def placeOf (k : ℕ) (y : S256x128.Idx) : S32768x128.Idx := ValueIdx.ix2 (Fin.ofNat 32768 (256 * k + (y 0).val)) (y 1)

/-- A place of the table, of its two coordinates. -/
theorem place_eq (x : S32768x128.Idx) (k : ℕ) (y : S256x128.Idx) (h0 : (x 0).val = k * 256 + (y 0).val) (h1 : (x 1).val = (y 1).val) :
    x = placeOf k y := by
  funext a
  match a with
  | 0 =>
    refine Fin.ext ?_
    have := (x 0).isLt
    show (x 0).val = (256 * k + (y 0).val) % 32768
    rw [← Nat.mod_eq_of_lt (show (x 0).val < 32768 from (x 0).isLt), h0, Nat.mul_comm]
  | 1 => exact Fin.ext h1

/-- Which block a row belongs to. -/
theorem block_of_place (k : ℕ) (y : S256x128.Idx) (hk : k < 128) :
    ((placeOf k y) 0).val / 256 = k
      ∧ inBlock (placeOf k y) = y := by
  have hy : (y 0).val < 256 := (y 0).isLt
  have e : ((placeOf k y) 0).val = 256 * k + (y 0).val := by
    show (256 * k + (y 0).val) % 32768 = _
    exact Nat.mod_eq_of_lt (by omega)
  refine ⟨by rw [e]; omega, ?_⟩
  funext a
  match a with
  | 0 =>
    refine Fin.ext ?_
    show ((placeOf k y) 0).val % 256 = (y 0).val
    rw [e]; omega
  | 1 => rfl

/-- Where a block's element is in the table. -/
theorem emb0_0 (t : Fin cfg0.N) (y : S256x128.Idx) :
    ((win0_0.blk t).view.emb y : S32768x128.Idx) = placeOf t.val y := by
  refine place_eq _ _ _ ?_ ?_
  · blk_simp [index0 t 0 0, coords0]; rfl
  · blk_simp [index0 t 0 1]; exact (congrArg (· + _) (Nat.zero_mul 128)).trans (Nat.zero_add _)
/-- Where a block's element is in the sorted keys. -/
theorem emb0_1 (t : Fin cfg0.N) (y : S256x128.Idx) :
    ((win0_1.blk t).view.emb y : S32768x128.Idx) = placeOf t.val y := by
  refine place_eq _ _ _ ?_ ?_
  · blk_simp [index0 t 1 0, coords0]; rfl
  · blk_simp [index0 t 1 1]; exact (congrArg (· + _) (Nat.zero_mul 128)).trans (Nat.zero_add _)
/-- Where a block's element is in the row numbers. -/
theorem emb0_2 (t : Fin cfg0.N) (y : S256x128.Idx) :
    ((win0_2.blk t).view.emb y : S32768x128.Idx) = placeOf t.val y := by
  refine place_eq _ _ _ ?_ ?_
  · blk_simp [index0 t 2 0, coords0]; rfl
  · blk_simp [index0 t 2 1]; exact (congrArg (· + _) (Nat.zero_mul 128)).trans (Nat.zero_add _)

/-- What the sorter's pipeline fetches at a point is the table's block there. -/
theorem xstg_eq (c : Dev nD) (t : Fin cfg0.N) : xstg m c t = rowBlock (F := F) (Hm m c) t.val := by
  funext y
  exact (View.read_apply _ _).trans (congrArg (Hm m c) (emb0_0 t y))

/-- The block sorted at a point. -/
theorem sstg_eq (c : Dev nD) (t : Fin cfg0.N) : sstg m c t = sortedBlock (F := F) (Hm m c) t.val := by
  unfold sortedBlock
  rw [← xstg_eq, ← coords0 t]

/-- The sorter's result arrays after the run. -/
theorem final0_1 (c : Dev nD) : (dat0 (F := F) m c).arrAt 1 cfg0.N = sortedV (F := F) (Hm m c) := by
  refine (dat0 m c).arrAt_eq_of_covers 1 _ (by decide +kernel) fun t hf y => ?_
  obtain ⟨e1, e2⟩ := block_of_place t.val y (lt_of_lt_of_eq t.isLt N_0)
  rw [after0_1]
  refine Eq.trans ?_ (congrArg (sortedV (F := F) (Hm m c)) (emb0_1 t y)).symm
  show _ = (sortedBlock (F := F) (Hm m c) ((placeOf t.val y 0).val / 256)).v (inBlock (placeOf t.val y))
  rw [e1, e2, ← sstg_eq]
  rfl
/-- The sorter leaves every row number. -/
theorem final0_2 (c : Dev nD) : (dat0 (F := F) m c).arrAt 2 cfg0.N = sortedI (F := F) (Hm m c) := by
  refine (dat0 m c).arrAt_eq_of_covers 2 _ (by decide +kernel) fun t hf y => ?_
  obtain ⟨e1, e2⟩ := block_of_place t.val y (lt_of_lt_of_eq t.isLt N_0)
  rw [after0_2]
  refine Eq.trans ?_ (congrArg (sortedI (F := F) (Hm m c)) (emb0_2 t y)).symm
  show _ = (sortedBlock (F := F) (Hm m c) ((placeOf t.val y 0).val / 256)).i (inBlock (placeOf t.val y))
  rw [e1, e2, ← sstg_eq]
  rfl

/-- The merge tail's windows show their arrays whole. -/
theorem emb1_0 (y : S32768x128.Idx) : ((win1_0.blk t1_0).view.emb y : S32768x128.Idx) = y := by
  funext a; refine Fin.ext ?_; blk_simp; exact (congrArg (· + _) (Nat.zero_mul _)).trans (Nat.zero_add _)
/-- The merge reads all the row numbers. -/
theorem emb1_1 (y : S32768x128.Idx) : ((win1_1.blk t1_0).view.emb y : S32768x128.Idx) = y := by
  funext a; refine Fin.ext ?_; blk_simp; exact (congrArg (· + _) (Nat.zero_mul _)).trans (Nat.zero_add _)
/-- The merge writes all of its result. -/
theorem emb1_2 (y : S256x128.Idx) : ((win1_2.blk t1_0).view.emb y : S256x128.Idx) = y := by
  funext a; refine Fin.ext ?_; blk_simp; exact (congrArg (· + _) (Nat.zero_mul _)).trans (Nat.zero_add _)

/-- The merge reads the sorted keys. -/
theorem before1_0 (c : Dev nD) (t : Fin cfg1.N) (d) : (dat1 m c).before 0 t d = sortedV (F := F) (Hm m c) := by
  obtain rfl := fin_N1 t
  rw [(dat1 m c).before_fetched 0 t1_0 (fetch1_0 t1_0)]
  funext y
  show (dat1 m c).blockOf 0 t1_0 y = _
  unfold Pipeline.Dat.blockOf
  exact (View.read_apply _ _).trans (congrArg (sortedV (F := F) (Hm m c)) (emb1_0 y))
/-- The merge reads their row numbers. -/
theorem before1_1 (c : Dev nD) (t : Fin cfg1.N) (d) : (dat1 m c).before 1 t d = sortedI (F := F) (Hm m c) := by
  obtain rfl := fin_N1 t
  rw [(dat1 m c).before_fetched 1 t1_0 (fetch1_1 t1_0)]
  funext y
  show (dat1 m c).blockOf 1 t1_0 y = _
  unfold Pipeline.Dat.blockOf
  exact (View.read_apply _ _).trans (congrArg (sortedI (F := F) (Hm m c)) (emb1_1 y))

/-- The merge tail's body. -/
theorem body1 (c : Dev nD) : Pipeline.BodyObligation (dat1 (F := F) m c) (defs₀ (F := F)) 𝒱₀ none Set.univ := fun t => by
  rw [bigSep_W1, bigSep_W1, defs₀_row1]
  unfold bodyAt1
  simp only [before1_0, before1_1]
  rw [show (dat1 m c).Φ t.succ = (dat1 m c).Φ t.castSucc from rfl,
    show (dat1 m c).owesAt none t.succ = (dat1 m c).owesAt none t.castSucc from rfl]
  iintro ⟨HΦ, HO, ⟨%d0, H0⟩, ⟨%d1, H1⟩, ⟨%d2, H2⟩⟩
  iapply (merge_sound (F := F) c _ _ _ _ _ _ (sortedV (F := F) (Hm m c)) (sortedI (F := F) (Hm m c)) _)
  isplitl [H0]; · iexact H0
  isplitl [H1]; · iexact H1
  isplitl [H2]; · iexists _; iexact H2
  iintro ⟨H0, H1, H2⟩
  isplitl [HΦ]; · iexact HΦ
  isplitl [HO]; · iexact HO
  isplitl [H0]; · iexact H0
  isplitl [H1]; · iexact H1
  iexact H2

/-- The merge tail's result array after the run. -/
theorem final1_2 (c : Dev nD) : (dat1 (F := F) m c).arrAt 2 cfg1.N = topI (F := F) (Hm m c) := by
  refine (dat1 m c).arrAt_eq_of_covers 2 _ (by decide +kernel) fun t hf y => ?_
  obtain rfl := fin_N1 t
  rw [after1_2]
  exact (congrArg (topI (F := F) (Hm m c)) (emb1_2 y)).symm

/-! ## The regions -/

/-- Before the SparseCore call a core owes nothing at the pipelines' index. -/
theorem Otc_none (d : Dev nD) (n : ℕ) (g : GSem nD τ sig) : (K (F := F)).Otc d n g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun i _ => ?_
    rw [tallyAt_apply, if_neg (by simp)]
  · rfl

/-- What a core owes between the launch and the SparseCore call. -/
def owing (c : Dev nD) : sProp 𝕄 :=
  iprop(∃ W, ⌜(K (F := F)).WBelow (T c) W 0⌝ ∗ owes (c : Thread nD τ) ((K (F := F)).Otc c 0) W)

/-- Nothing is owed at the sorter's points. -/
theorem owing_owesAt0 (c : Dev nD) (t) : (owing (F := F) c : sProp 𝕄) ⊢ (dat0 m c).owesAt none t := by
  unfold owing Pipeline.Dat.owesAt Pipeline.owesWithin Pipeline.Dat.bound
  iintro ⟨%W, %hW, HO⟩
  iexists W
  isplitr
  · ipureintro; exact fun p hp => Or.inl (hW p hp)
  iexact HO
/-- Nothing is owed at the merge's point. -/
theorem owing_owesAt1 (c : Dev nD) (t) : (owing (F := F) c : sProp 𝕄) ⊢ (dat1 m c).owesAt none t := by
  unfold owing Pipeline.Dat.owesAt Pipeline.owesWithin Pipeline.Dat.bound
  iintro ⟨%W, %hW, HO⟩
  iexists W
  isplitr
  · ipureintro; exact fun p hp => Or.inl (hW p hp)
  iexact HO
/-- Nothing is owed after the sorter. -/
theorem owesAt_owing0 (c : Dev nD) (t) : (dat0 m c).owesAt none t ⊢ (owing (F := F) c : sProp 𝕄) := by
  unfold owing Pipeline.Dat.owesAt Pipeline.owesWithin Pipeline.Dat.bound
  iintro ⟨%W, %hW, HO⟩
  iexists W
  isplitr
  · ipureintro
    intro p hp
    rcases hW hp with h | ⟨w, s, rfl⟩
    · exact h
    · exact le_of_eq ((K (F := F)).lev_none _)
  iexact HO
/-- Nothing is owed after the merge. -/
theorem owesAt_owing1 (c : Dev nD) (t) : (dat1 m c).owesAt none t ⊢ (owing (F := F) c : sProp 𝕄) := by
  unfold owing Pipeline.Dat.owesAt Pipeline.owesWithin Pipeline.Dat.bound
  iintro ⟨%W, %hW, HO⟩
  iexists W
  isplitr
  · ipureintro
    intro p hp
    rcases hW hp with h | ⟨w, s, rfl⟩
    · exact h
    · exact le_of_eq ((K (F := F)).lev_none _)
  iexact HO

/-- A buffer of a core held whole. -/
abbrev pl (c : Dev nD) (b : Ref sig .tc) (f : b.ty.Contents (Elt F)) : sProp 𝕄 := ((c : Thread nD τ).loc b) ↦{fullShare} f

/-- The sorter's arrays, one by one. -/
theorem arrays0 (c : Dev nD) (Fa) : ((pdats (F := F) m 0 c).arrays Fa : sProp 𝕄)
    = iprop(pl c main_arg0 (Fa 0) ∗ pl c main_v0_0 (Fa 1) ∗ pl c main_v0_1 (Fa 2)) := by
  rw [Pipeline.arrays_eq (Pipeline.pin (pcfgs (F := F)) adm) (pdats m) 0 c launch0.arr_whole ((pdats m 0 c).share_full fun _ => rfl) Fa, bigSep_W0]
  rfl
/-- The merge's arrays, one by one. -/
theorem arrays1 (c : Dev nD) (Fa) : ((pdats (F := F) m 1 c).arrays Fa : sProp 𝕄)
    = iprop(pl c main_v0_0 (Fa 0) ∗ pl c main_v0_1 (Fa 1) ∗ pl c main_v1 (Fa 2)) := by
  rw [Pipeline.arrays_eq (Pipeline.pin (pcfgs (F := F)) adm) (pdats m) 1 c launch1.arr_whole ((pdats m 1 c).share_full fun _ => rfl) Fa, bigSep_W1]
  rfl

/-- The sorter has no prefetched table. -/
theorem prefHeld0 (c : Dev nD) (q V) : (Pipeline.prefHeld (τ := τ) (Ix := HIx 1) (Name := ℕ) (U := UU) (Lvl := ℕ) ((pcfgs (F := F)) 0).pre c q V : sProp 𝕄) = iprop(emp) :=
  bigSep_univ_eq_bigSepL [] (Finset.eq_empty_iff_forall_notMem.2 fun k => k.elim0) List.nodup_nil _
/-- The merge has no prefetched table. -/
theorem prefHeld1 (c : Dev nD) (q V) : (Pipeline.prefHeld (τ := τ) (Ix := HIx 1) (Name := ℕ) (U := UU) (Lvl := ℕ) ((pcfgs (F := F)) 1).pre c q V : sProp 𝕄) = iprop(emp) :=
  bigSep_univ_eq_bigSepL [] (Finset.eq_empty_iff_forall_notMem.2 fun k => k.elim0) List.nodup_nil _

/-- The block sorter's region: the table read, its two result arrays left at the sorted blocks. -/
def reg0 : Pipeline.RegionSeg (pcfgs (F := F)) adm (pdats m) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 m c).loose
  hwaits c := Pipeline.cellsWaits_intro _ (pdats m) none 0 c fun w s t => (K (F := F)).mayWait_none _ (Otc_none (F := F) c 0)
  pre c := iprop((pl c main_arg0 (m ((c : Thread nD τ).loc main_arg0)) ∗ pl c main_v0_0 (m ((c : Thread nD τ).loc main_v0_0))
    ∗ pl c main_v0_1 (m ((c : Thread nD τ).loc main_v0_1))) ∗ owing c)
  post c := iprop((pl c main_arg0 (m ((c : Thread nD τ).loc main_arg0)) ∗ pl c main_v0_0 (sortedV (F := F) (Hm m c))
    ∗ pl c main_v0_1 (sortedI (F := F) (Hm m c))) ∗ owing c)
  X _ := iprop(emp)
  Y _ := iprop(emp)
  Z _ := iprop(emp)
  hentry c := by
    rw [Pipeline.ownSems0_none, prefHeld0, arrays0]
    iintro ⟨⟨Ha, HO⟩, -, -⟩
    ihave HO' := (owing_owesAt0 m c 0) $$ HO
    imodintro
    isplitl [Ha]; · iexact Ha
    isplitr; · iempintro
    isplitl [HO']; · iexact HO'
    isplitr <;> iempintro
  hin c := by
    show _ ⊢ Pipeline.scopedRest spec0 c
    iintro ⟨-, -, H⟩
    iexact H
  hout c := by
    rw [Pipeline.ownSems0_none]
    show Pipeline.scopedRest spec0 c ⊢ _
    iintro H
    isplitr; · iempintro
    isplitr; · iempintro
    iexact H
  hexit c := by
    rw [arrays0]
    iintro ⟨⟨H0, H1, H2⟩, HO, -, -⟩
    ihave HO' := (show (pdats (F := F) m 0 c).owesAt none (Fin.last (Pipeline.pin (pcfgs (F := F)) adm 0).N) ⊢ owing c
      from owesAt_owing0 m c (Fin.last cfg0.N)) $$ HO
    ihave H0' := (Entails.of_eq (congrArg (fun f => pl (F := F) c main_arg0 f) (show (pdats (F := F) m 0 c).arrAt 0 (Pipeline.pin (pcfgs (F := F)) adm 0).N = _ from (dat0 m c).arrAt_in 0 rfl _))) $$ H0
    ihave H1' := (Entails.of_eq (congrArg (fun f => pl (F := F) c main_v0_0 f) (show (pdats (F := F) m 0 c).arrAt 1 (Pipeline.pin (pcfgs (F := F)) adm 0).N = _ from final0_1 m c))) $$ H1
    ihave H2' := (Entails.of_eq (congrArg (fun f => pl (F := F) c main_v0_1 f) (show (pdats (F := F) m 0 c).arrAt 2 (Pipeline.pin (pcfgs (F := F)) adm 0).N = _ from final0_2 m c))) $$ H2
    imodintro
    isplitr [HO']
    · isplitl [H0']; · iexact H0'
      isplitl [H1']; · iexact H1'
      iexact H2'
    iexact HO'

/-- The merge tail's region: its two arguments read, its result left at the first rows' numbers. -/
def reg1 : Pipeline.RegionSeg (pcfgs (F := F)) adm (pdats m) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body1 m c).loose
  hwaits c := Pipeline.cellsWaits_intro _ (pdats m) none 1 c fun w s t => (K (F := F)).mayWait_none _ (Otc_none (F := F) c 0)
  pre c := iprop((pl c main_v0_0 (sortedV (F := F) (Hm m c)) ∗ pl c main_v0_1 (sortedI (F := F) (Hm m c))
    ∗ pl c main_v1 (m (iLoc c))) ∗ owing c)
  post c := iprop((pl c main_v0_0 (sortedV (F := F) (Hm m c)) ∗ pl c main_v0_1 (sortedI (F := F) (Hm m c))
    ∗ pl c main_v1 (topI (F := F) (Hm m c))) ∗ owing c)
  X _ := iprop(emp)
  Y _ := iprop(emp)
  Z _ := iprop(emp)
  hentry c := by
    rw [Pipeline.ownSems0_none, prefHeld1, arrays1]
    iintro ⟨⟨Ha, HO⟩, -, -⟩
    ihave HO' := (owing_owesAt1 m c 0) $$ HO
    imodintro
    isplitl [Ha]; · iexact Ha
    isplitr; · iempintro
    isplitl [HO']; · iexact HO'
    isplitr <;> iempintro
  hin c := by
    show _ ⊢ Pipeline.scopedRest spec1 c
    iintro ⟨-, -, H⟩
    iexact H
  hout c := by
    rw [Pipeline.ownSems0_none]
    show Pipeline.scopedRest spec1 c ⊢ _
    iintro H
    isplitr; · iempintro
    isplitr; · iempintro
    iexact H
  hexit c := by
    rw [arrays1]
    iintro ⟨⟨H0, H1, H2⟩, HO, -, -⟩
    ihave HO' := (show (pdats (F := F) m 1 c).owesAt none (Fin.last (Pipeline.pin (pcfgs (F := F)) adm 1).N) ⊢ owing c
      from owesAt_owing1 m c (Fin.last cfg1.N)) $$ HO
    ihave H0' := (Entails.of_eq (congrArg (fun f => pl (F := F) c main_v0_0 f) (show (pdats (F := F) m 1 c).arrAt 0 (Pipeline.pin (pcfgs (F := F)) adm 1).N = _ from (dat1 m c).arrAt_in 0 rfl _))) $$ H0
    ihave H1' := (Entails.of_eq (congrArg (fun f => pl (F := F) c main_v0_1 f) (show (pdats (F := F) m 1 c).arrAt 1 (Pipeline.pin (pcfgs (F := F)) adm 1).N = _ from (dat1 m c).arrAt_in 1 rfl _))) $$ H1
    ihave H2' := (Entails.of_eq (congrArg (fun f => pl (F := F) c main_v1 f) (show (pdats (F := F) m 1 c).arrAt 2 (Pipeline.pin (pcfgs (F := F)) adm 1).N = _ from final1_2 m c))) $$ H2
    imodintro
    isplitr [HO']
    · isplitl [H0']; · iexact H0'
      isplitl [H1']; · iexact H1'
      iexact H2'
    iexact HO'

/-! ## The calls in @main -/

/-- A region's call as @main makes it, beside the SparseCore call. -/
theorem wp_region {p : Fin 2} (R : Pipeline.RegionSeg (pcfgs (F := F)) adm (pdats m) (none : HIx 1) defs₀ 𝒱₀ (K (F := F)).L (K (F := F)).lev p)
    [∀ e, Nonempty (Elt F e)] (d : Dev nD) (Q : PUnit → sProp 𝕄) :
    iprop((iprop(boundary (T d : Thread nD τ) ∗ R.post d) -∗ Q ⟨⟩) ∗ boundary (T d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  refine BIBase.Entails.trans ?_ ((K (F := F)).wp_liftProg (D (F := F)) 𝒱 (T d) Set.univ none (.op (.customCall (Pipeline.entry p) ()) .ret) Q)
  refine BIBase.Entails.trans ?_ (Pipeline.RegionSeg.wp (pcfgs (F := F)) adm (pdats m) (none : HIx 1) cellOf_inj EP defs₀ 𝒱₀ (K (F := F)).L (K (F := F)).lev R d
    none (fun _ h => nomatch h) .ret Q)
  iintro ⟨Hk, Hr⟩
  isplitl [Hk]
  · iintro H
    rw [wp_ret]; imodintro
    iapply Hk $$ H
  iexact Hr

/-- The block sorter's call. -/
theorem wp_sort [∀ e, Nonempty (Elt F e)] (d : Dev nD) (Q : PUnit → sProp 𝕄) :
    iprop((iprop(boundary (T d : Thread nD τ) ∗ (pl d main_arg0 (Hm m d) ∗ pl d main_v0_0 (sortedV (F := F) (Hm m d)) ∗ pl d main_v0_1 (sortedI (F := F) (Hm m d))) ∗ owing d) -∗ Q ⟨⟩) ∗ boundary (T d : Thread nD τ)
        ∗ ((pl d main_arg0 (Hm m d) ∗ pl d main_v0_0 (m ((d : Thread nD τ).loc main_v0_0)) ∗ pl d main_v0_1 (m ((d : Thread nD τ).loc main_v0_1))) ∗ owing d)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (T d) none) Set.univ
          (Prog.lift (.customCall (SparseCore.inner (Pipeline.entry 0)) ())) Q :=
  wp_region m (reg0 m) d Q

/-- The merge tail's call. -/
theorem wp_merge [∀ e, Nonempty (Elt F e)] (d : Dev nD) (Q : PUnit → sProp 𝕄) :
    iprop((iprop(boundary (T d : Thread nD τ) ∗ (pl d main_v0_0 (sortedV (F := F) (Hm m d)) ∗ pl d main_v0_1 (sortedI (F := F) (Hm m d)) ∗ pl d main_v1 (topI (F := F) (Hm m d))) ∗ owing d) -∗ Q ⟨⟩) ∗ boundary (T d : Thread nD τ)
        ∗ ((pl d main_v0_0 (sortedV (F := F) (Hm m d)) ∗ pl d main_v0_1 (sortedI (F := F) (Hm m d)) ∗ pl d main_v1 (m (iLoc d))) ∗ owing d)
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (T d) none) Set.univ
          (Prog.lift (.customCall (SparseCore.inner (Pipeline.entry 1)) ())) Q :=
  wp_region m (reg1 m) d Q

end Cert.Proof.Gather

end
-- ==== Proof.Run.lean ====
/-
  @main's run: the two TensorCore calls, the SparseCore call on what they leave, then the reshape of its result. Written
  for every float semantics, with the value the result ends at.
-/
module

public import proofs.«01_k».proof.Proof.Regions

@[expose] public section

set_option maxRecDepth 16384

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held wp_hlo_within)
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- The row numbers the gather runs at, and its result as launched. -/
abbrev Im (d : Dev nD) : Buf (Elt F) (iLoc d) := topI (F := F) (Hm m d)
/-- The call's result at the start. -/
abbrev Om (d : Dev nD) : Buf (Elt F) (oLoc d) := m (oLoc d)
/-- What the tasks are handed, from the memory at the start. -/
abbrev Pm : (K (F := F)).Pay (nD := nD) (Val := Elt F) (Name := ℕ) (U := UU) := P (Hm m) (Im m) (Om m)

/-- The program's result. -/
abbrev rLoc (d : Dev nD) : Loc nD τ sig := (SparseCore.T d).loc main_v3

/-- What the program leaves in its result: the gathered table at the result's shape. -/
def out (h : S32768x128.Idx → Elt F .f32) (ix : S256x128.Idx → Elt F .i32) : S256x128x128.Idx → Elt F .f32 :=
  shapeCast S256x128x128 (gat (F := F) h ix) shapeCasts_S32768x128_S256x128x128

/-! ## The launch element of the ghost state -/

/-- The counters at the start. -/
def u₀ : UU := (initOf (Pipeline.cells (nD := nD) (τ := τ) (Pipeline.pin (pcfgs (F := F)) adm) cellOf_inj) (Pipeline.launchToks (Pipeline.pin (pcfgs (F := F)) adm) cellOf_inj),
  (initOf (K (F := F)).hsCells (K (F := F)).hsToks, 1))

omit [FloatOps F] in
/-- Nothing, any number of times. -/
theorem bigSep_emp' {I : Type} (s : Finset I) : (bigSep s fun _ => iprop(emp)) = (iprop(emp) : sProp 𝕄) := bigSep_emp_const s

/-- What the launch hands a device for its two pipelines. -/
abbrev Gd (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The counters at the start, dealt out. -/
theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (Pm m).x q thr) := by
  unfold u₀
  iintro Hu
  ihave H := (ownU_pair (initOf (Pipeline.cells (nD := nD) (τ := τ) (Pipeline.pin (pcfgs (F := F)) adm) cellOf_inj) (Pipeline.launchToks (Pipeline.pin (pcfgs (F := F)) adm) cellOf_inj))
    (initOf (K (F := F)).hsCells (K (F := F)).hsToks, (1 : Counters))) $$ Hu
  icases H with ⟨HP, HR⟩
  ihave H2 := (own_pair_emb (embR : Emb (UH × Counters) (MT nD τ sig (HIx 1) (Elt F) ℕ UU ℕ)) (initOf (K (F := F)).hsCells (K (F := F)).hsToks) (1 : Counters)) $$ HR
  icases H2 with ⟨HH, -⟩
  imod (Pipeline.fund_ghost (Pipeline.pin (pcfgs (F := F)) adm) EP cellOf_inj) $$ HP with ⟨Hg, Ht⟩
  imodintro
  isplitl [HH]; · unfold EH; iexact HH
  isplitl [Hg Ht]
  · rw [bigSep_sep']
    isplitl [Hg] <;> iassumption
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), bigSep_emp']
  iempintro

/-! ## @main -/

/-- The call's result, on its device. -/
abbrev o' : DevRef τ sig := Proc.devRef .tc (main_v2 : Ref sig .tc)
/-- The program's result, on its device. -/
abbrev r' : DevRef τ sig := Proc.devRef .tc (main_v3 : Ref sig .tc)
/-- The reshape. -/
abbrev opReshape : HloOp τ sig (Elt F) := StableHlo.reshape main_v2 main_v3 (rfl : (.f32 : EltTy) = .f32) shapeCasts_S32768x128_S256x128x128
/-- The two arrays of the reshape. -/
abbrev S2 : Finset (DevRef τ sig) := {o', r'}

omit [FloatOps F] in
/-- The program's arrays, one by one. -/
theorem unscopedBufs_eq (d : Dev nD) (W : (b : Ref sig .tc) → Buf (Elt F) ((d.tc : Thread nD τ).loc b)) :
    (unscopedBufs d W : sProp 𝕄) = iprop(pl d main_arg0 (W main_arg0) ∗ pl d main_v0_0 (W main_v0_0) ∗ pl d main_v0_1 (W main_v0_1)
      ∗ pl d main_v1 (W main_v1) ∗ pl d main_v2 (W main_v2) ∗ pl d main_v3 (W main_v3)) := by
  unfold unscopedBufs
  rw [show (Finset.univ.filter fun b : Ref sig .tc => ¬ b.isScoped) = {main_arg0, main_v0_0, main_v0_1, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

omit [FloatOps F] in
/-- Holding the two arrays of the reshape. -/
theorem held_S2 (d : Dev nD) (W : Valuation τ sig (Elt F)) :
    (held (T d) S2 W : sProp 𝕄) = iprop((oLoc d ↦{fullShare} W o') ∗ rLoc d ↦{fullShare} W r') := by
  unfold held S2
  rw [SparseCore.bigSep_insert' (by decide), bigSep_singleton]

/-- The valuation the reshape runs at: the call's result at the gathered table. -/
def V1 (d : Dev nD) : Valuation τ sig (Elt F) := Function.update (fun b => m (d, b)) o' (gat (F := F) (Hm m d) (Im m d))
/-- Before the reshape: the call's result. -/
theorem V1_o (d : Dev nD) : V1 m d o' = gat (F := F) (Hm m d) (Im m d) := Function.update_self _ _ _
/-- Before the reshape: the program's result as it was. -/
theorem V1_r (d : Dev nD) : V1 m d r' = m (rLoc d) := Function.update_of_ne (show r' ≠ o' by decide) _ _

/-- After the reshape: the program's result. -/
theorem V2_r (d : Dev nD) : (opReshape (F := F)).result (V1 m d) r' = out (F := F) (Hm m d) (Im m d) := by
  rw [StableHlo.reshape_result]
  unfold out
  rw [V1_o]
  rfl

/-- The reshape uses its two arrays. -/
theorem hReshape : (opReshape (F := F)).bufs ⊆ S2 := show ({o', r'} : Finset (DevRef τ sig)) ⊆ S2 by decide

/-- What all the tasks are handed. -/
theorem st0_eq (d : Dev nD) : (bigSep Finset.univ fun c : Fin ((K (F := F)).nCore 0) => (Pm m).st 0 d c)
    = iprop((hLoc d ↦{fullShare} Hm m d) ∗ (iLoc d ↦{fullShare} Im m d) ∗ oLoc d ↦{fullShare} Om m d) :=
  all_tasks (Hm m) (Im m) d (Om m d)
/-- What all the tasks give back. -/
theorem dn0_eq (d : Dev nD) : (bigSep Finset.univ fun c : Fin ((K (F := F)).nCore 0) => (Pm m).dn 0 d c)
    = iprop((hLoc d ↦{fullShare} Hm m d) ∗ (iLoc d ↦{fullShare} Im m d) ∗ oLoc d ↦{fullShare} gat (F := F) (Hm m d) (Im m d)) :=
  all_tasks (Hm m) (Im m) d (gat (F := F) (Hm m d) (Im m d))

omit [FloatOps F] in
/-- Two things, one after another. -/
theorem bigSep_fin2 (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- Before the SparseCore call a TensorCore holds what it owes beside the call's own state. -/
theorem tcSt_owing (d : Dev nD) : ∃ R : sProp 𝕄, ((K (F := F)).tcSt EH d 0 : sProp 𝕄) = iprop(owing (F := F) d ∗ R) := ⟨_, rfl⟩

/-- What @main leaves the claims: the argument at its launch contents, the result at `out`. -/
abbrev FIN (d : Dev nD) : sProp 𝕄 :=
  iprop((hLoc d ↦{fullShare} Hm m d) ∗ rLoc d ↦{fullShare} out (F := F) (Hm m d) (Im m d))

/-- @main on a device's TensorCore: the two TensorCore calls, the SparseCore call over the whole arrays, then the reshape. -/
theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_owing (F := F) d
  unfold SparseCore.Cfg.tcRes SparseCore.Cfg.tcEnd
  rw [unscopedBufs_eq]
  unfold Gd
  rw [bigSep_fin2, bigSep_fin2]
  simp only [main, wp_bind, wp_pure]
  iintro ⟨#Hctx, Hst, ⟨Hb, ⟨Hh, Ha, Hc, Hi, Ho, Hr⟩, Hts, -⟩, ⟨Hg0, Hg1⟩, ⟨Ht0, Ht1⟩⟩
  ihave Hst' := (Entails.of_eq hR) $$ Hst
  icases Hst' with ⟨HO, Hst⟩
  ihave #Hlev := ((K (F := F)).ctx_levAts κ) $$ Hctx
  iapply (wp_sort m d)
  isplitr [Hb Hh Ha Hc HO Hg0 Ht0]; swap
  · isplitl [Hb]; · iexact Hb
    isplitl [Hh Ha Hc HO]
    · isplitl [Hh Ha Hc]
      · isplitl [Hh]; · iexact Hh
        isplitl [Ha] <;> iassumption
      iexact HO
    isplitr; · iexact Hlev
    isplitl [Hg0]; · iexact Hg0
    iexact Ht0
  iintro ⟨Hb, ⟨Hh, Ha, Hc⟩, HO⟩
  iapply (wp_merge m d)
  isplitr [Hb Ha Hc Hi HO Hg1 Ht1]; swap
  · isplitl [Hb]; · iexact Hb
    isplitl [Ha Hc Hi HO]
    · isplitl [Ha Hc Hi]
      · isplitl [Ha]; · iexact Ha
        isplitl [Hc] <;> iassumption
      iexact HO
    isplitr; · iexact Hlev
    isplitl [Hg1]; · iexact Hg1
    iexact Ht1
  iintro ⟨Hb, ⟨Ha, Hc, Hi⟩, HO⟩
  iapply ((K (F := F)).wp_run (D (F := F)) 𝒱 (EH := EH) (P := Pm m) κ d 0) $$ [Hst HO Hh Hi Ho Hr Hb Hts]
  isplitr; · iexact Hctx
  isplitl [Hst HO]
  · iapply (Entails.of_eq hR.symm)
    isplitl [HO] <;> iassumption
  isplitl [Hh Hi Ho]
  · rw [st0_eq]
    isplitl [Hh]; · iexact Hh
    isplitl [Hi]; · iexact Hi
    iexact Ho
  iintro ⟨Hst, Hdn⟩
  ihave Hdn' := (Entails.of_eq (dn0_eq m d)) $$ Hdn
  icases Hdn' with ⟨Hh, Hi, Ho⟩
  iapply (wp_hlo_within 𝒱 (SparseCore.T d) none Set.univ (op := opReshape) (S := S2) hReshape (V := V1 m d)) $$ [Hb Ho Hr]
  · isplitl [Hb]; · iexact Hb
    rw [held_S2, V1_o, V1_r]
    isplitl [Ho]; · iexact Ho
    iexact Hr
  iintro ⟨Hb, Hheld⟩
  ihave Hheld' := (Entails.of_eq (held_S2 (F := F) d _)) $$ Hheld
  icases Hheld' with ⟨-, Hr⟩
  ihave Hr' := (Entails.of_eq (congrArg (fun f => (rLoc d ↦{fullShare} f : sProp 𝕄)) (V2_r m d))) $$ Hr
  rw [wp_ret]; imodintro; imodintro
  isplitl [Hst]; · iexact Hst
  isplitr [Hb Hts]
  · isplitl [Hh]; · iexact Hh
    iexact Hr'
  isplitl [Hb] <;> iassumption

/-- What a final state shows on a device. -/
def fq (d : Dev nD) (s' : Phys nD τ sig (Elt F)) : Prop :=
  s'.mem.mem (hLoc d) = m (hLoc d) ∧ s'.mem.mem (rLoc d) = out (F := F) (Hm m d) (Im m d)

/-- What is owned at the end says what the memory holds. -/
theorem hfin (d : Dev nD) (s' : Phys nD τ sig (Elt F)) : iprop(FIN m d ∗ SI s') ⊢ (⌜fq m d s'⌝ : sProp 𝕄) := by
  iintro ⟨⟨Hh, Hr⟩, HSI⟩
  ihave H := (persistent_entails_right (SI_pointsTo_agree (st := s') (ℓ := hLoc d) (I := Finset.univ) (q := fullShare) (f := m (hLoc d)))) $$ [HSI Hh]
  · isplitl [HSI] <;> iassumption
  icases H with ⟨%h1, HSI, -⟩
  ihave H := (SI_pointsTo_agree (st := s') (ℓ := rLoc d) (I := Finset.univ) (q := fullShare) (f := out (F := F) (Hm m d) (Im m d))) $$ [HSI Hr]
  · isplitl [HSI] <;> iassumption
  icases H with %h3
  ipureintro
  exact ⟨funext fun i => h1 i (Finset.mem_univ i), funext fun i => h3 i (Finset.mem_univ i)⟩

/-- The postcondition of the run. -/
def QC : PUnit × MemSt nD τ sig (Elt F) → Prop := fun r =>
  (∀ c : Dev nD, r.2.mem (hLoc c) = m (hLoc c) ∧ r.2.mem (rLoc c) = out (F := F) (Hm m c) (Im m c))
    ∧ r.2.sem = fun _ => 0

/-- The whole program's run, given that the merge tail leaves row numbers in range: it terminates without a fault, the
    argument unchanged, the result at `out`, every semaphore at zero. -/
theorem run_of [∀ e, Nonempty (Elt F e)] (hpre : IxOK (Im m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Hm m) (Im m) (Om m) hpre)
    (fun q _ => match q with | 0 => SparseCore.Cfg.VecSplit.of_plain (vecSplit (Hm m) (Im m) (Om m)))
    m ρ main (Gd (F := F)) (FIN m) (u₀ (F := F)) (sep_elim_left.trans (hu₀ m)) (hmain m ρ) (fq m) (hfin m) (QC m) (fun _ h hz => ⟨h, hz⟩)

end Cert.Proof.Gather

end
-- ==== Proof.Range.lean ====
/-
  The row numbers stay in range: every stage only moves entries, so every row number the merge leaves is one of those the
  block sorter was given, and each of those is below 32768. For every float semantics.
-/
module

public import proofs.«01_k».proof.Proof.Stage
public import proofs.«01_k».proof.Proof.Run

@[expose] public section

noncomputable section

namespace Cert.Proof.Net

open Idealize.ShloMosaic hiding ix2 ix3 eq_ix2
open Idealize.ShloMosaic.ValueIdx
open Idealize.ShloMosaic.SortNet (partner)

variable {F : FTy → Type} [FloatOps F]

/-- Every entry of one array is an entry of another, in the same column. -/
def From {n k : ℕ} (q : Pair F (Rows n)) (p : Pair F (Rows k)) : Prop := ∀ r c, ∃ r', q.ent r c = p.ent r' c

/-- Entries come from themselves. -/
theorem From.refl {n : ℕ} (p : Pair F (Rows n)) : From p p := fun r _ => ⟨r, rfl⟩

/-- Entries that come from entries that come from others. -/
theorem From.trans {n k l : ℕ} {q : Pair F (Rows n)} {p : Pair F (Rows k)} {o : Pair F (Rows l)} (h : From q p) (h' : From p o) : From q o :=
  fun r c => by
    obtain ⟨r₁, e₁⟩ := h r c
    obtain ⟨r₂, e₂⟩ := h' r₁ c
    exact ⟨r₂, e₁.trans e₂⟩

/-- A stage by groups makes up no entry. -/
theorem grpStage_from {n d : ℕ} (h : GrpFacts n d) (hd : 0 < d) (hnd : n * (2 * d) = 256) (D : IVec (Per n) 1) (p : Pair F (Rows 256)) :
    From (grpStage n d h D p) p := fun r c => by
  obtain ⟨g, hi, o, rfl⟩ := exists_grpRow hd hnd r
  rw [grpStage_at h hnd]
  refine (fun (x y : Ent F) (b : BitVec 1) (hx : ∃ r', x = p.ent r' c) (hy : ∃ r', y = p.ent r' c) =>
    (show ∃ r', pick b x y = p.ent r' c from by rcases pick_mem b x y with e | e <;> rw [e] <;> assumption)) _ _ _ ?_ ?_
  · rcases pick_mem (ahead (p.ent (grpRow hnd g false o) c) (p.ent (grpRow hnd g true o) c)) (p.ent (grpRow hnd g hi o) c)
      (p.ent (grpRow hnd g (!hi) o) c) with e | e
    · exact ⟨_, e⟩
    · exact ⟨_, e⟩
  · rcases pick_mem (ahead (p.ent (grpRow hnd g false o) c) (p.ent (grpRow hnd g true o) c)) (p.ent (grpRow hnd g (!hi) o) c)
      (p.ent (grpRow hnd g hi o) c) with e | e
    · exact ⟨_, e⟩
    · exact ⟨_, e⟩

/-- A stage by rotations makes up no entry. -/
theorem rollStage_from (t : ℕ) (ht : t < 8) (D : IVec Col 1) (p : Pair F (Rows 256)) :
    From (rollStage (BitVec.ofNat 32 (256 - 2 ^ t)) (BitVec.ofNat 32 (2 ^ t)) (BitVec.ofNat 32 t) D p) p := fun r c => by
  rw [rollStage_at t ht]
  rcases pick_mem _ (p.ent r c) (p.ent (partner 8 t r : Fin (2 ^ 8)) c) with e | e
  · exact ⟨_, e⟩
  · exact ⟨_, e⟩

/-- The fold makes up no entry. -/
theorem fold_from (p : Pair F (Rows 512)) : From (fold p) p := fun r c => by
  rw [fold_at]
  rcases pick_mem _ (p.ent ⟨r.val, by omega⟩ c) (p.ent ⟨256 + r.val, by omega⟩ c) with e | e
  · exact ⟨_, e⟩
  · exact ⟨_, e⟩

/-- The merge of a block makes up no entry. -/
theorem mergeBlock_from (b : BitVec 1) (p : Pair F (Rows 256)) : From (mergeBlock b p) p :=
  (rollStage_from 0 (by decide) _ _).trans <| (rollStage_from 1 (by decide) _ _).trans <| (rollStage_from 2 (by decide) _ _).trans <|
  (grpStage_from facts16 (by decide) rfl _ _).trans <| (grpStage_from facts8 (by decide) rfl _ _).trans <|
  (grpStage_from facts4 (by decide) rfl _ _).trans <| (grpStage_from facts2 (by decide) rfl _ _).trans <|
  grpStage_from facts1 (by decide) rfl _ _

/-- The merge of two blocks makes up no entry. -/
theorem half_from (b : BitVec 1) (p : Pair F (Rows 512)) : From (half b p) p := (mergeBlock_from b _).trans (fold_from p)

/-- Every row is a row of a block of 256. -/
theorem exists_block {n : ℕ} (r : Fin (256 * n)) : ∃ (k : ℕ) (o : Fin 256) (_ : k < n) (h : 256 * k + o.val < 256 * n), r = ⟨256 * k + o.val, h⟩ := by
  have hr := r.isLt
  exact ⟨r.val / 256, ⟨r.val % 256, Nat.mod_lt _ (by decide)⟩, by omega, by show 256 * (r.val / 256) + r.val % 256 < _; omega,
    Fin.ext (by show r.val = 256 * (r.val / 256) + r.val % 256; omega)⟩

/-- A level makes up no entry. -/
theorem level_from {n : ℕ} (hn : 2 ≤ n) (p : Pair F (Rows (512 * n))) : From (level n hn p) p := fun r c => by
  obtain ⟨k, o, hk, hlt, rfl⟩ := exists_block r
  obtain ⟨r', e'⟩ := half_from (dirBit k) (piece n (by omega) p k) o c
  exact ⟨_, (level_at hn p k hk o c).trans (e'.trans (piece_at (by omega) p k hk r' c))⟩

/-- The whole merge makes up no entry. -/
theorem mergeAll_from (p : Pair F (Rows 32768)) : From (mergeAll p) p :=
  (half_from _ _).trans <| (level_from (n := 2) _ _).trans <| (level_from (n := 4) _ _).trans <| (level_from (n := 8) _ _).trans <|
  (level_from (n := 16) _ _).trans <| (level_from (n := 32) _ _).trans <| level_from (n := 64) _ _

/-- The sort's stage makes up no entry. -/
theorem sortStage_from (b s : BitVec 32) (t : ℕ) (p : Pair F (Rows 256)) : From (sortStage b s t p) p := by
  match t with
  | 0 => exact rollStage_from 0 (by decide) _ _
  | 1 => exact rollStage_from 1 (by decide) _ _
  | 2 => exact rollStage_from 2 (by decide) _ _
  | 3 => exact grpStage_from facts16 (by decide) rfl _ _
  | 4 => exact grpStage_from facts8 (by decide) rfl _ _
  | 5 => exact grpStage_from facts4 (by decide) rfl _ _
  | 6 => exact grpStage_from facts2 (by decide) rfl _ _
  | _ + 7 => exact grpStage_from facts1 (by decide) rfl _ _

/-- The sort's round makes up no entry. -/
theorem sortRound_from (b s : BitVec 32) (t : ℕ) (p : Pair F (Rows 256)) : From (sortRound b s t p) p := by
  induction t generalizing p with
  | zero => exact From.refl p
  | succ t ih => exact (ih _).trans (sortStage_from b s t p)

/-- The rounds of the sort make up no entry. -/
theorem sortRounds_from (b : BitVec 32) (t : ℕ) (p : Pair F (Rows 256)) : From (sortRounds b t p) p := by
  induction t with
  | zero => exact From.refl p
  | succ t ih => exact (sortRound_from b _ _ _).trans ih

/-- A block's row numbers, at an entry. -/
theorem numbered_at (k : ℕ) (hk : k < 128) (v : FVec F (Rows 256) .f32) (r : Fin 256) (c : Fin 128) :
    (numbered (Scalar.muli (BitVec.ofNat 32 k) 256#32) v).ent r c = (v (ix2 r c), BitVec.ofNat 32 (256 * k + r.val)) := by
  have hr := r.isLt
  refine Prod.ext rfl ?_
  show iota .tc (Rows 256) 32 [0] rowsIota (ix2 r c) + BitVec.ofNat 32 k * 256#32 = BitVec.ofNat 32 (256 * k + r.val)
  rw [iota_single_apply]
  apply BitVec.eq_of_toNat_eq
  simp only [BitVec.toNat_add, BitVec.toNat_mul, BitVec.toNat_ofNat]
  show (r.val % 2 ^ 32 + k % 2 ^ 32 * (256 % 2 ^ 32) % 2 ^ 32) % 2 ^ 32 = _
  omega

end Cert.Proof.Net

namespace Cert.Proof.Gather

open Cert.KernelIdeal Cert.KernelIdeal.Gen
open Idealize.ShloMosaic hiding ix2 ix3 eq_ix2
open Idealize.ShloMosaic.ValueIdx
open Idealize.SL.Sem

variable {F : FTy → Type} [FloatOps F]

/-- The two arrays the block sorter leaves, as one array of entries. -/
def sortedP (h : S32768x128.Idx → Elt F .f32) : Net.Pair F (Net.Rows 32768) := ⟨sortedV h, sortedI h⟩

/-- The sorted array, at a row of block `k`. -/
theorem sortedP_at (h : S32768x128.Idx → Elt F .f32) (k : ℕ) (hk : k < 128) (r : Fin 256) (c : Fin 128) :
    (sortedP h).ent ⟨256 * k + r.val, by omega⟩ c = (sortedBlock h k).ent r c := by
  have hr := r.isLt
  have e1 : (256 * k + r.val) / 256 = k := by omega
  have e2 : (⟨(256 * k + r.val) % 256, Nat.mod_lt _ (by decide)⟩ : Fin 256) = r := Fin.ext (by show (256 * k + r.val) % 256 = r.val; omega)
  show ((sortedBlock h ((256 * k + r.val) / 256)).v (ix2 ⟨(256 * k + r.val) % 256, _⟩ c),
    (sortedBlock h ((256 * k + r.val) / 256)).i (ix2 ⟨(256 * k + r.val) % 256, _⟩ c)) = _
  rw [e1, e2]
  rfl

/-- What the merge tail leaves is the merge of the sorted array. -/
theorem topI_eq (h : S32768x128.Idx → Elt F .f32) : topI h = (Net.mergeAll (sortedP h)).i := by
  have e : ∀ {α : Type} (x : S32768x128.Idx → α) (hx : S32768x128.ShapeCasts S32768x128), shapeCast S32768x128 x hx = x := by
    intro α x hx
    funext j
    exact shapeCast_apply _ _ _ _ rfl
  unfold topI Net.topRows sortedP
  rw [e, e]

/-- Every entry of the sorted array is a row of the table beside its number. -/
theorem sortedP_entry (h : S32768x128.Idx → Elt F .f32) (r : Fin 32768) (c : Fin 128) :
    ∃ r' : Fin 32768, (sortedP h).ent r c = (h (ix2 r' c), BitVec.ofNat 32 r'.val) := by
  obtain ⟨k, o, hk, hlt, rfl⟩ := Net.exists_block (n := 128) r
  obtain ⟨r', e'⟩ := Net.sortRounds_from (Scalar.muli (BitVec.ofNat 32 k) 256#32) 8
    (Net.numbered (Scalar.muli (BitVec.ofNat 32 k) 256#32) (rowBlock h k)) o c
  have hr' := r'.isLt
  refine ⟨⟨256 * k + r'.val, by omega⟩, ?_⟩
  refine (sortedP_at h k hk o c).trans (e'.trans ((Net.numbered_at k hk _ _ _).trans ?_))
  refine Prod.ext ?_ rfl
  show h (ix2 (Fin.ofNat 32768 (256 * k + r'.val)) c) = _
  refine congrArg (fun k => h (ix2 k c)) (Fin.ext ?_)
  show (256 * k + r'.val) % 32768 = 256 * k + r'.val
  omega

/-- Every row number the merge leaves is below 32768. -/
theorem topI_lt (h : S32768x128.Idx → Elt F .f32) (r : Fin 256) (c : Fin 128) : (topI h (ix2 r c)).toNat < 32768 := by
  rw [topI_eq]
  obtain ⟨r₁, e₁⟩ := Net.mergeAll_from (sortedP h) r c
  obtain ⟨r₂, e₂⟩ := sortedP_entry h r₁ c
  have e : (Net.mergeAll (sortedP h)).i (ix2 r c) = BitVec.ofNat 32 r₂.val := congrArg Prod.snd (e₁.trans e₂)
  rw [e, BitVec.toNat_ofNat]
  have := r₂.isLt
  omega

variable (m : (ℓ : Loc nD τ sig) → Buf (Elt F) ℓ) (ρ : Dev nD → PrngReg)

/-- The gather's row numbers are in range. -/
theorem ixOK : IxOK (Im m) := fun d j => by
  rw [eq_ix2 j]
  exact topI_lt (Hm m d) _ _

/-- @main's run, with the value its result ends at. -/
theorem run_main [∀ e, Nonempty (Elt F e)] :
    θ_run (Cert.KernelIdeal.defs (F := F)) (Cert.KernelIdeal.threads (F := F)) ⟨m, fun _ => 0, ρ⟩ (QC m) := run_of m ρ (ixOK m)

end Cert.Proof.Gather

end
-- ==== Proof.Order.lean ====
/-
  At the extended reals: an entry as an element of one linear order (greater keys later, then lesser row numbers later),
  each stage as the same stage of a comparator network on a column, the block sort and the block merge as networks.
-/
module

public import proofs.«01_k».proof.Proof.Stage
public import Idealize.ShloMosaic.PureOps.Ideal
public import Idealize.ShloMosaic.Lib.Pointwise.Select
public import Idealize.ShloMosaic.Lib.SortNet.Sorts
public import Idealize.ShloMosaic.Lib.SortNet.Fold
public import Mathlib.Data.Prod.Lex
public import Mathlib.Data.EReal.Basic

@[expose] public section

noncomputable section

namespace Cert.Proof.Net

open Idealize.ShloMosaic hiding ix2 ix3 eq_ix2
open Idealize.ShloMosaic.ValueIdx
open Idealize.ShloMosaic.SortNet

/-! ## The order -/

/-- Where an entry stands: a key, then a row number counted down. -/
abbrev Key : Type := EReal ×ₗ ℤᵒᵈ

/-- An entry's place in the order. -/
def key (a : Ent Ideal) : Key := toLex ((a.1 : EReal), OrderDual.toDual a.2.toInt)

/-- Places tell entries apart. -/
theorem key_injective : Function.Injective key := by
  intro a b h
  have h' : ((a.1 : EReal), OrderDual.toDual a.2.toInt) = ((b.1 : EReal), OrderDual.toDual b.2.toInt) := toLex.injective h
  have h1 : (a.1 : EReal) = b.1 := (Prod.mk.inj h').1
  have h2 : OrderDual.toDual a.2.toInt = OrderDual.toDual b.2.toInt := (Prod.mk.inj h').2
  exact Prod.ext h1 (BitVec.toInt_inj.mp (OrderDual.toDual.injective h2))

/-- The comparison of two entries is the order's. -/
theorem ahead_eq (a b : Ent Ideal) : ahead a b = BitVec.ofBool (decide (key b < key a)) := by
  have h : key b < key a ↔ (b.1 : EReal) < a.1 ∨ (b.1 : EReal) = a.1 ∧ a.2.toInt < b.2.toInt := by
    unfold key
    rw [Prod.Lex.toLex_lt_toLex]
    exact Iff.rfl
  have e1 : FloatOps.cmpf .ogt a.1 b.1 = BitVec.ofBool (decide ((b.1 : EReal) < a.1)) := rfl
  have e2 : FloatOps.cmpf .oeq a.1 b.1 = BitVec.ofBool (decide ((a.1 : EReal) = b.1)) := rfl
  have e3 : IntOp.cmpi .slt a.2 b.2 = BitVec.ofBool (decide (a.2.toInt < b.2.toInt)) := rfl
  have e4 : ∀ x y z : Bool, IntOp.ori (BitVec.ofBool x) (IntOp.andi (BitVec.ofBool y) (BitVec.ofBool z)) = BitVec.ofBool (x || (y && z)) := by
    decide
  unfold ahead
  rw [e1, e2, e3, e4]
  refine congrArg BitVec.ofBool ?_
  by_cases hk : key b < key a
  · rw [decide_eq_true hk]
    rcases h.mp hk with h1 | ⟨h1, h2⟩
    · rw [decide_eq_true h1]; rfl
    · rw [decide_eq_true (p := (a.1 : EReal) = b.1) h1.symm, decide_eq_true h2, Bool.and_true, Bool.or_true]
  · rw [decide_eq_false hk]
    have h1 : ¬ (b.1 : EReal) < a.1 := fun e => hk (h.mpr (Or.inl e))
    rw [decide_eq_false h1, Bool.false_or]
    by_cases h2 : (a.1 : EReal) = b.1
    · have h3 : ¬ a.2.toInt < b.2.toInt := fun e => hk (h.mpr (Or.inr ⟨h2.symm, e⟩))
      rw [decide_eq_false h3, Bool.and_false]
    · rw [decide_eq_false h2, Bool.false_and]

/-- A choice by a known bit. -/
theorem pick_ofBool (w : Bool) (x y : Ent Ideal) : pick (BitVec.ofBool w) x y = if w then x else y := by
  cases w <;> rfl

/-- Keeping the entry that comes before is taking the greater place. -/
theorem key_pick_max (a b : Ent Ideal) : key (pick (ahead a b) a b) = max (key a) (key b) := by
  rw [ahead_eq, pick_ofBool]
  by_cases h : key b < key a
  · rw [decide_eq_true h, if_pos rfl, max_eq_left (le_of_lt h)]
  · rw [decide_eq_false h, if_neg (by decide), max_eq_right (not_lt.mp h)]

/-- Keeping the other is taking the lesser place. -/
theorem key_pick_min (a b : Ent Ideal) : key (pick (ahead a b) b a) = min (key a) (key b) := by
  rw [ahead_eq, pick_ofBool]
  by_cases h : key b < key a
  · rw [decide_eq_true h, if_pos rfl, min_eq_right (le_of_lt h)]
  · rw [decide_eq_false h, if_neg (by decide), min_eq_left (not_lt.mp h)]

/-! ## One stage on a column -/

/-- A column's places. -/
def col (p : Pair Ideal (Rows 256)) (c : Fin 128) : Fin (2 ^ 8) → Key := fun r => key (p.ent r c)

/-- What a stage does to every pair says what it is. -/
theorem stage_of_pairs {t : ℕ} (ht : t < 8) (w : Fin (2 ^ 8) → Bool) (f g : Fin (2 ^ 8) → Key)
    (h : ∀ i : Fin (2 ^ 8), i.val / 2 ^ t % 2 = 0 →
      g i = (if w i then max (f i) (f (partner 8 t i)) else min (f i) (f (partner 8 t i))) ∧
        g (partner 8 t i) = if w i then min (f i) (f (partner 8 t i)) else max (f i) (f (partner 8 t i))) :
    g = Network.apply (stage 8 t w) f := by
  funext i
  by_cases hi : i.val &&& 2 ^ t = 0
  · rw [(apply_stage ht w f i hi).1]
    exact (h i ((clear_iff _ _).mp hi)).1
  · have hi' := partner_and_of_set ht i hi
    have e := (apply_stage ht w f _ hi').2
    have e' := (h _ ((clear_iff _ _).mp hi')).2
    rw [partner_partner ht] at e e'
    rw [e, e']

/-- The lower row of a pair has its bit clear. -/
theorem grpRow_clear {n d t : ℕ} (hd : d = 2 ^ t) (hnd : n * (2 * d) = 256) (g : Fin n) (o : Fin d) :
    (grpRow hnd g false o).val / 2 ^ t % 2 = 0 := by
  subst hd
  show ((g.val * 2 + 0) * 2 ^ t + o.val) / 2 ^ t % 2 = 0
  rw [Nat.add_comm, Nat.add_mul_div_right _ _ (Nat.two_pow_pos t), Nat.div_eq_of_lt o.isLt]
  omega

/-- The two rows of a pair are partners. -/
theorem partner_grpRow {n d t : ℕ} (ht : t < 8) (hd : d = 2 ^ t) (hnd : n * (2 * d) = 256) (g : Fin n) (o : Fin d) :
    partner 8 t (grpRow hnd g false o : Fin (2 ^ 8)) = grpRow hnd g true o := by
  refine Fin.ext ?_
  rw [partner_val_of_clear ht _ ((clear_iff _ _).mpr (grpRow_clear hd hnd g o))]
  subst hd
  show (g.val * 2 + 0) * 2 ^ t + o.val + 2 ^ t = (g.val * 2 + 1) * 2 ^ t + o.val
  rw [Nat.add_mul (g.val * 2) 1, Nat.one_mul, Nat.add_zero]
  omega

/-- A stage by groups is the network's stage at its distance. -/
theorem col_grpStage {n d t : ℕ} (h : GrpFacts n d) (ht : t < 8) (hd : d = 2 ^ t) (hnd : n * (2 * d) = 256) (D : IVec (Per n) 1)
    (w : Fin (2 ^ 8) → Bool) (hw : ∀ g o, D (ix3 g (0 : Fin 1) (0 : Fin 1)) = BitVec.ofBool (w (grpRow hnd g false o)))
    (p : Pair Ideal (Rows 256)) (c : Fin 128) : col (grpStage n d h D p) c = Network.apply (stage 8 t w) (col p c) := by
  refine stage_of_pairs ht w _ _ fun i hi => ?_
  obtain ⟨g, hb, o, e⟩ := exists_grpRow (n := n) (d := d) (by rw [hd]; exact Nat.two_pow_pos t) hnd i
  have hb' : hb = false := by
    cases hb
    · rfl
    · exfalso
      have e' : i = partner 8 t (grpRow hnd g false o : Fin (2 ^ 8)) := e.trans (partner_grpRow ht hd hnd g o).symm
      rw [e'] at hi
      have := partner_and ht (grpRow hnd g false o : Fin (2 ^ 8)) ((clear_iff _ _).mpr (grpRow_clear hd hnd g o))
      rw [(clear_iff _ _).mpr hi] at this
      exact absurd this (ne_of_lt (Nat.two_pow_pos t))
  subst hb'
  subst e
  rw [partner_grpRow ht hd hnd]
  unfold col
  refine ⟨(congrArg key (grpStage_at h hnd D p g o c false)).trans ?_, (congrArg key (grpStage_at h hnd D p g o c true)).trans ?_⟩
  · rw [hw g o, pick_ofBool]
    split
    · exact key_pick_max _ _
    · exact key_pick_min _ _
  · rw [hw g o, pick_ofBool]
    split
    · exact key_pick_min _ _
    · exact key_pick_max _ _

/-- A bit negated swaps a choice. -/
theorem pick_not (b : BitVec 1) (x y : Ent Ideal) : pick (IntOp.xori b 1#1) x y = pick b y x := by
  by_cases h : b = 1#1
  · subst h; rfl
  · rw [eq_zero_of_ne_one h]; rfl

/-- A stage by rotations is the network's stage at its distance. -/
theorem col_rollStage {t : ℕ} (ht : t < 8) (D : IVec Col 1) (w : Fin (2 ^ 8) → Bool)
    (hw : ∀ r : Fin (2 ^ 8), D (ix2 r (0 : Fin 1)) = BitVec.ofBool (w r))
    (hp : ∀ r : Fin (2 ^ 8), r.val / 2 ^ t % 2 = 0 → w (partner 8 t r) = w r) (p : Pair Ideal (Rows 256)) (c : Fin 128) :
    col (rollStage (BitVec.ofNat 32 (256 - 2 ^ t)) (BitVec.ofNat 32 (2 ^ t)) (BitVec.ofNat 32 t) D p) c
      = Network.apply (stage 8 t w) (col p c) := by
  refine stage_of_pairs ht w _ _ fun i hi => ?_
  have hset : ¬ (partner 8 t i).val / 2 ^ t % 2 = 0 := fun h => by
    have := partner_and ht i ((clear_iff _ _).mpr hi)
    rw [(clear_iff _ _).mpr h] at this
    exact absurd this (ne_of_lt (Nat.two_pow_pos t))
  have k1 : ∀ b : BitVec 1, IntOp.xori (IntOp.xori (IntOp.xori (IntOp.xori (BitVec.ofBool true) (BitVec.ofBool true)) 1#1) b) 1#1 = b := by
    decide
  have k2 : ∀ b : BitVec 1, IntOp.xori (IntOp.xori (IntOp.xori (IntOp.xori (BitVec.ofBool true) (BitVec.ofBool false)) 1#1) b) 1#1 = IntOp.xori b 1#1 := by
    decide
  have k3 : ∀ b : BitVec 1, IntOp.xori (IntOp.xori (IntOp.xori (IntOp.xori (BitVec.ofBool false) (BitVec.ofBool true)) 1#1) b) 1#1 = IntOp.xori b 1#1 := by
    decide
  have k4 : ∀ b : BitVec 1, IntOp.xori (IntOp.xori (IntOp.xori (IntOp.xori (BitVec.ofBool false) (BitVec.ofBool false)) 1#1) b) 1#1 = b := by
    decide
  unfold col
  refine ⟨(congrArg key (rollStage_at t ht D p i c)).trans ?_, (congrArg key (rollStage_at t ht D p (partner 8 t i) c)).trans ?_⟩
  · rw [hw, decide_eq_true hi]
    cases w i
    · rw [k2, pick_not]; exact key_pick_min _ _
    · rw [k1]; exact key_pick_max _ _
  · rw [hw, decide_eq_false hset, hp i hi, partner_partner ht]
    cases w i
    · rw [k4]; exact (key_pick_max _ _).trans (max_comm _ _)
    · rw [k3, pick_not]; exact (key_pick_min _ _).trans (min_comm _ _)

/-! ## The merge of a block -/

/-! Each stage of the merge, in its one direction. -/

/-- The merge's stage at distance 1. -/
theorem col_roll0 (b : Bool) (p : Pair Ideal (Rows 256)) (c : Fin 128) :
    col (rollStage 255#32 1#32 0#32 (broadcast Col (BitVec.ofBool b)) p) c = Network.apply (stage 8 0 fun _ => b) (col p c) :=
  col_rollStage (t := 0) (by decide) _ (fun _ => b) (fun _ => rfl) (fun _ _ => rfl) p c
/-- The merge's stage at distance 2. -/
theorem col_roll1 (b : Bool) (p : Pair Ideal (Rows 256)) (c : Fin 128) :
    col (rollStage 254#32 2#32 1#32 (broadcast Col (BitVec.ofBool b)) p) c = Network.apply (stage 8 1 fun _ => b) (col p c) :=
  col_rollStage (t := 1) (by decide) _ (fun _ => b) (fun _ => rfl) (fun _ _ => rfl) p c
/-- The merge's stage at distance 4. -/
theorem col_roll2 (b : Bool) (p : Pair Ideal (Rows 256)) (c : Fin 128) :
    col (rollStage 252#32 4#32 2#32 (broadcast Col (BitVec.ofBool b)) p) c = Network.apply (stage 8 2 fun _ => b) (col p c) :=
  col_rollStage (t := 2) (by decide) _ (fun _ => b) (fun _ => rfl) (fun _ _ => rfl) p c
/-- The merge's stage at distance 8. -/
theorem col_grp16 (b : Bool) (p : Pair Ideal (Rows 256)) (c : Fin 128) :
    col (grpStage 16 8 facts16 (broadcast (Per 16) (BitVec.ofBool b)) p) c = Network.apply (stage 8 3 fun _ => b) (col p c) :=
  col_grpStage (t := 3) facts16 (by decide) rfl rfl _ (fun _ => b) (fun _ _ => rfl) p c
/-- The merge's stage at distance 16. -/
theorem col_grp8 (b : Bool) (p : Pair Ideal (Rows 256)) (c : Fin 128) :
    col (grpStage 8 16 facts8 (broadcast (Per 8) (BitVec.ofBool b)) p) c = Network.apply (stage 8 4 fun _ => b) (col p c) :=
  col_grpStage (t := 4) facts8 (by decide) rfl rfl _ (fun _ => b) (fun _ _ => rfl) p c
/-- The merge's stage at distance 32. -/
theorem col_grp4 (b : Bool) (p : Pair Ideal (Rows 256)) (c : Fin 128) :
    col (grpStage 4 32 facts4 (broadcast (Per 4) (BitVec.ofBool b)) p) c = Network.apply (stage 8 5 fun _ => b) (col p c) :=
  col_grpStage (t := 5) facts4 (by decide) rfl rfl _ (fun _ => b) (fun _ _ => rfl) p c
/-- The merge's stage at distance 64. -/
theorem col_grp2 (b : Bool) (p : Pair Ideal (Rows 256)) (c : Fin 128) :
    col (grpStage 2 64 facts2 (broadcast (Per 2) (BitVec.ofBool b)) p) c = Network.apply (stage 8 6 fun _ => b) (col p c) :=
  col_grpStage (t := 6) facts2 (by decide) rfl rfl _ (fun _ => b) (fun _ _ => rfl) p c
/-- The merge's stage at distance 128. -/
theorem col_grp1 (b : Bool) (p : Pair Ideal (Rows 256)) (c : Fin 128) :
    col (grpStage 1 128 facts1 (broadcast (Per 1) (BitVec.ofBool b)) p) c = Network.apply (stage 8 7 fun _ => b) (col p c) :=
  col_grpStage (t := 7) facts1 (by decide) rfl rfl _ (fun _ => b) (fun _ _ => rfl) p c

/-- Eight networks, the last listed first, one after another. -/
theorem apply_eight {n : ℕ} (f : ℕ → Network n) (v : Fin n → Key) :
    Network.apply ((List.range 8).reverse.flatMap f) v
      = Network.apply (f 0) (Network.apply (f 1) (Network.apply (f 2) (Network.apply (f 3) (Network.apply (f 4) (Network.apply (f 5)
        (Network.apply (f 6) (Network.apply (f 7) v))))))) := by
  have er : (List.range 8).reverse = [7, 6, 5, 4, 3, 2, 1, 0] := by decide
  rw [er]
  simp only [List.flatMap_cons, List.flatMap_nil, Network.apply_append, Network.apply_nil]

/-- The merge of a block, in a direction. -/
theorem col_mergeBlock (b : Bool) (p : Pair Ideal (Rows 256)) (c : Fin 128) :
    col (mergeBlock (BitVec.ofBool b) p) c = Network.apply ((List.range 8).reverse.flatMap fun s => stage 8 s fun _ => b) (col p c) := by
  refine Eq.trans ?_ (apply_eight (fun s => stage 8 s fun _ => b) (col p c)).symm
  unfold mergeBlock
  rw [col_roll0, col_roll1, col_roll2, col_grp16, col_grp8, col_grp4, col_grp2, col_grp1]

/-! ## The sort of a block -/

/-- The direction of a row in a round: bit `s` of its number in the whole array is clear. -/
def dirOf (k s : ℕ) (i : Fin (2 ^ 8)) : Bool := decide ((256 * k + i.val) / 2 ^ s % 2 = 0)

/-- A quotient by a power of two, taken in two steps. -/
theorem div_two_steps (y : ℕ) {u s : ℕ} (h : u ≤ s) : y / 2 ^ s = y / 2 ^ u / 2 ^ (s - u) := by
  rw [Nat.div_div_eq_div_mul, ← Nat.pow_add, Nat.add_sub_cancel' h]

/-- Whole blocks before a row, divided. -/
theorem block_div (k i : ℕ) {u : ℕ} (hu : u ≤ 8) : (256 * k + i) / 2 ^ u = 2 ^ (8 - u) * k + i / 2 ^ u := by
  have e : 256 * k + i = i + 2 ^ (8 - u) * k * 2 ^ u := by
    have : 2 ^ (8 - u) * 2 ^ u = 256 := by rw [← Nat.pow_add, Nat.sub_add_cancel hu]
    rw [Nat.mul_right_comm, this, Nat.add_comm]
  rw [e, Nat.add_mul_div_right _ _ (Nat.two_pow_pos u), Nat.add_comm]

/-- A pair's start divided by the pair's size. -/
theorem pair_div (a o t : ℕ) (ho : o < 2 ^ t) : (a * 2 * 2 ^ t + o) / 2 ^ (t + 1) = a := by
  have e : a * 2 * 2 ^ t + o = o + a * 2 ^ (t + 1) := by rw [Nat.pow_succ, Nat.mul_assoc, Nat.mul_comm 2, Nat.add_comm]
  rw [e, Nat.add_mul_div_right _ _ (Nat.two_pow_pos _), Nat.div_eq_of_lt (by rw [Nat.pow_succ]; omega), Nat.zero_add]

/-- The two rows of a pair divided by the pair's size. -/
theorem partner_div (r t : ℕ) (hr : r / 2 ^ t % 2 = 0) : (r + 2 ^ t) / 2 ^ (t + 1) = r / 2 ^ (t + 1) := by
  rw [Nat.pow_succ, ← Nat.div_div_eq_div_mul, ← Nat.div_div_eq_div_mul, Nat.add_div_right _ (Nat.two_pow_pos t)]
  omega

/-- Whole blocks before a row leave its low bits. -/
theorem block_bit (k y : ℕ) {u : ℕ} (hu : u ≤ 7) : (2 ^ (8 - u) * k + y) % 2 = 0 ↔ y % 2 = 0 := by
  rw [show 8 - u = 7 - u + 1 by omega, Nat.pow_succ, Nat.mul_right_comm]
  omega

/-- The directions, by rows. -/
theorem dirRows_at {k s : ℕ} (hk : k < 128) (hs : s < 32) (r : Fin (2 ^ 8)) :
    dirRows (Scalar.muli (BitVec.ofNat 32 k) 256#32) (BitVec.ofNat 32 s) (ix2 r (0 : Fin 1)) = BitVec.ofBool (dirOf k s r) := by
  have hr : r.val < 256 := r.isLt
  have e : (BitVec.ofNat 32 r.val + BitVec.ofNat 32 k * 256#32).toNat = 256 * k + r.val := by
    simp only [BitVec.toNat_add, BitVec.toNat_mul, BitVec.toNat_ofNat]
    omega
  have h := bit_clear (BitVec.ofNat 32 r.val + BitVec.ofNat 32 k * 256#32) s (by rw [e]; omega) hs
  rw [e] at h
  refine Eq.trans ?_ h
  show IntOp.cmpi .eq (IntOp.andi (IntOp.shrsi .vector (iota .tc Col 32 [0] colIota (ix2 r (0 : Fin 1)) + BitVec.ofNat 32 k * 256#32)
    (BitVec.ofNat 32 s)) 1#32) 0#32 = _
  rw [iota_single_apply]

/-- The directions, by groups. -/
theorem dirGrps_at {n d t k s : ℕ} (ht : t < 8) (hd : d = 2 ^ t) (hnd : n * (2 * d) = 256) (hk : k < 128) (hts : t < s) (hs : s < 32)
    (g : Fin n) (o : Fin d) :
    dirGrps n (Scalar.muli (BitVec.ofNat 32 k) 256#32) (BitVec.ofNat 32 d) (BitVec.ofNat 32 s) (ix3 g (0 : Fin 1) (0 : Fin 1))
      = BitVec.ofBool (dirOf k s (grpRow hnd g false o)) := by
  have hg : g.val * (2 * d) < 256 := by
    rw [← hnd]; exact Nat.mul_lt_mul_of_pos_right g.isLt (by rw [hd]; have := Nat.two_pow_pos t; omega)
  have hg2 : g.val * 2 * d < 256 := by rw [Nat.mul_assoc]; exact hg
  have hn : g.val < 256 := lt_of_le_of_lt (Nat.le_mul_of_pos_right _ (by rw [hd]; have := Nat.two_pow_pos t; omega)) hg
  have hd2 : d < 2 ^ 32 := by rw [hd]; exact Nat.pow_lt_pow_right (by decide) (by omega)
  have e : (BitVec.ofNat 32 g.val * 2#32 * BitVec.ofNat 32 d + BitVec.ofNat 32 k * 256#32).toNat = 256 * k + g.val * 2 * d := by
    simp only [BitVec.toNat_add, BitVec.toNat_mul, BitVec.toNat_ofNat]
    rw [Nat.mod_eq_of_lt (a := g.val) (by omega), Nat.mod_eq_of_lt (a := d) hd2, Nat.mod_eq_of_lt (a := g.val * (2 % 2 ^ 32)) (by omega),
      Nat.mod_eq_of_lt (a := g.val * (2 % 2 ^ 32) * d) (by
        show g.val * 2 * d < 2 ^ 32; omega)]
    show (g.val * 2 * d + k % 2 ^ 32 * 256 % 2 ^ 32) % 2 ^ 32 = _
    omega
  have h := bit_clear (BitVec.ofNat 32 g.val * 2#32 * BitVec.ofNat 32 d + BitVec.ofNat 32 k * 256#32) s (by rw [e]; omega) hs
  rw [e] at h
  refine Eq.trans ?_ (h.trans (congrArg BitVec.ofBool (decide_eq_decide.mpr ?_)))
  · show IntOp.cmpi .eq (IntOp.andi (IntOp.shrsi .vector (iota .tc (Per n) 32 [0] (perIota n) (ix3 g (0 : Fin 1) (0 : Fin 1)) * 2#32
      * BitVec.ofNat 32 d + BitVec.ofNat 32 k * 256#32) (BitVec.ofNat 32 s)) 1#32) 0#32 = _
    rw [iota_single_apply]
    rfl
  · have e2 : (256 * k + g.val * 2 * d) / 2 ^ s = (256 * k + (grpRow hnd g false o).val) / 2 ^ s := by
      rw [div_two_steps _ (show t + 1 ≤ s from hts), div_two_steps (256 * k + (grpRow hnd g false o).val) (show t + 1 ≤ s from hts),
        block_div k _ (show t + 1 ≤ 8 from ht), block_div k _ (show t + 1 ≤ 8 from ht)]
      have a1 : g.val * 2 * d / 2 ^ (t + 1) = g.val := by
        have := pair_div g.val 0 t (Nat.two_pow_pos t)
        rwa [Nat.add_zero, ← hd] at this
      have a2 : (grpRow hnd g false o).val / 2 ^ (t + 1) = g.val := by
        have := pair_div g.val o.val t (by rw [← hd]; exact o.isLt)
        rwa [← hd] at this
      rw [a1, a2]
    rw [e2]

/-- Partners below a round's bit have one direction. -/
theorem dirOf_partner {t k s : ℕ} (ht : t < 8) (hts : t < s) (r : Fin (2 ^ 8)) (hr : r.val / 2 ^ t % 2 = 0) :
    dirOf k s (partner 8 t r) = dirOf k s r := by
  unfold dirOf
  refine decide_eq_decide.mpr ?_
  have e : (256 * k + (partner 8 t r).val) / 2 ^ s = (256 * k + r.val) / 2 ^ s := by
    rw [partner_val_of_clear ht r ((clear_iff _ _).mpr hr), div_two_steps _ (show t + 1 ≤ s from hts),
      div_two_steps (256 * k + r.val) (show t + 1 ≤ s from hts), block_div k _ (show t + 1 ≤ 8 from ht), block_div k _ (show t + 1 ≤ 8 from ht)]
    have a := partner_div r.val t hr
    rw [a]
  rw [e]

/-- A stage of the sort is the network's stage in the round's directions. -/
theorem col_sortStage {t k s : ℕ} (ht : t < 8) (hk : k < 128) (hts : t < s) (hs : s < 32) (p : Pair Ideal (Rows 256)) (c : Fin 128) :
    col (sortStage (Scalar.muli (BitVec.ofNat 32 k) 256#32) (BitVec.ofNat 32 s) t p) c
      = Network.apply (stage 8 t (dirOf k s)) (col p c) := by
  match t, ht, hts with
  | 0, ht, hts => exact col_rollStage ht _ _ (dirRows_at hk hs) (dirOf_partner ht hts) p c
  | 1, ht, hts => exact col_rollStage ht _ _ (dirRows_at hk hs) (dirOf_partner ht hts) p c
  | 2, ht, hts => exact col_rollStage ht _ _ (dirRows_at hk hs) (dirOf_partner ht hts) p c
  | 3, ht, hts => exact col_grpStage facts16 ht rfl rfl _ _ (dirGrps_at ht rfl rfl hk hts hs) p c
  | 4, ht, hts => exact col_grpStage facts8 ht rfl rfl _ _ (dirGrps_at ht rfl rfl hk hts hs) p c
  | 5, ht, hts => exact col_grpStage facts4 ht rfl rfl _ _ (dirGrps_at ht rfl rfl hk hts hs) p c
  | 6, ht, hts => exact col_grpStage facts2 ht rfl rfl _ _ (dirGrps_at ht rfl rfl hk hts hs) p c
  | 7, ht, hts => exact col_grpStage facts1 ht rfl rfl _ _ (dirGrps_at ht rfl rfl hk hts hs) p c

/-- The last `t` stages of a round. -/
theorem col_sortRound {k s : ℕ} (hk : k < 128) (hs : s < 32) (c : Fin 128) (t : ℕ) : t ≤ 8 → t ≤ s → ∀ p : Pair Ideal (Rows 256),
    col (sortRound (Scalar.muli (BitVec.ofNat 32 k) 256#32) (BitVec.ofNat 32 s) t p) c
      = Network.apply ((List.range t).reverse.flatMap fun t => stage 8 t (dirOf k s)) (col p c) := by
  induction t with
  | zero => intro _ _ p; rfl
  | succ t ih =>
    intro ht hts p
    rw [List.range_succ, List.reverse_append, List.reverse_singleton, List.flatMap_append, List.flatMap_singleton, Network.apply_append,
      ← col_sortStage (by omega) hk (by omega) hs p c]
    exact ih (by omega) (by omega) _

/-- The first seven rounds are the first seven levels of the sorting network. -/
theorem col_sortRounds {k : ℕ} (hk : k < 128) (c : Fin 128) (p : Pair Ideal (Rows 256)) (t : ℕ) : t ≤ 7 →
    col (sortRounds (Scalar.muli (BitVec.ofNat 32 k) 256#32) t p) c = Network.apply (levelsNet 8 true t) (col p c) := by
  induction t with
  | zero => intro _; rfl
  | succ t ih =>
    intro ht
    have e : (fun i : Fin (2 ^ 8) => (decide (i.val &&& 2 ^ (t + 1) = 0)) == true) = dirOf k (t + 1) := by
      funext i
      unfold dirOf
      rw [show ∀ b : Bool, (b == true) = b from by decide]
      refine decide_eq_decide.mpr ((clear_iff _ _).trans ?_)
      rw [block_div k _ (show t + 1 ≤ 8 by omega)]
      exact (block_bit k _ ht).symm
    rw [levelsNet_succ, Network.apply_append, ← ih (by omega)]
    unfold levelNet
    rw [e]
    exact col_sortRound hk (by omega) c (t + 1) (by omega) (by omega) _

/-- After seven levels the lower half descends and the upper half ascends. -/
theorem descAsc_levels (v : Fin (2 ^ 8) → Key) : DescAsc (Network.apply (levelsNet 8 true 7) v) := by
  have h0 := (sortNet_levels 8 true v 7 (by decide) ⟨0, by decide⟩).1 rfl
  have h1 := (sortNet_levels 8 true v 7 (by decide) ⟨1, by decide⟩).2 rfl
  refine ⟨128, Or.inl ⟨fun i j hij hj => ?_, fun i j hij hi => ?_⟩⟩
  · have hij' : i.val ≤ j.val := hij
    have ei : i = chunkPos (P := 8) (p := 7) (by decide) ⟨0, by decide⟩ ⟨i.val, by show i.val < 128; omega⟩ :=
      Fin.ext (by show i.val = 0 * 2 ^ 7 + i.val; omega)
    have ej : j = chunkPos (P := 8) (p := 7) (by decide) ⟨0, by decide⟩ ⟨j.val, by show j.val < 128; omega⟩ :=
      Fin.ext (by show j.val = 0 * 2 ^ 7 + j.val; omega)
    exact (le_of_eq (congrArg _ ej)).trans ((h0 (a := ⟨i.val, by show i.val < 128; omega⟩) (b := ⟨j.val, by show j.val < 128; omega⟩) hij').trans
      (le_of_eq (congrArg _ ei.symm)))
  · have hij' : i.val ≤ j.val := hij
    have hi' : i.val < 256 := i.isLt
    have hj' : j.val < 256 := j.isLt
    have ei : i = chunkPos (P := 8) (p := 7) (by decide) ⟨1, by decide⟩ ⟨i.val - 128, by show i.val - 128 < 128; omega⟩ :=
      Fin.ext (by show i.val = 1 * 2 ^ 7 + (i.val - 128); omega)
    have ej : j = chunkPos (P := 8) (p := 7) (by decide) ⟨1, by decide⟩ ⟨j.val - 128, by show j.val - 128 < 128; omega⟩ :=
      Fin.ext (by show j.val = 1 * 2 ^ 7 + (j.val - 128); omega)
    exact (le_of_eq (congrArg _ ei)).trans ((h1 (a := ⟨i.val - 128, by show i.val - 128 < 128; omega⟩)
      (b := ⟨j.val - 128, by show j.val - 128 < 128; omega⟩) (Nat.sub_le_sub_right hij' 128)).trans (le_of_eq (congrArg _ ej.symm)))

/-- The stages of a merge in one direction leave a vector that descends then ascends sorted in that direction. -/
theorem merge_sorts (b : Bool) (v : Fin (2 ^ 8) → Key) (hv : DescAsc v) :
    (b = true → Antitone (Network.apply ((List.range 8).reverse.flatMap fun s => stage 8 s fun _ => b) v)) ∧
      (b = false → Monotone (Network.apply ((List.range 8).reverse.flatMap fun s => stage 8 s fun _ => b) v)) := by
  cases b
  · exact ⟨fun h => absurd h (by decide), fun _ => mergeAscNet_apply_monotone 8 v hv⟩
  · exact ⟨fun _ => mergeDescNet_apply_antitone 8 v hv, fun h => absurd h (by decide)⟩

/-- The last round of block `k` merges, descending where `k` is even. -/
theorem col_sortBlock {k : ℕ} (hk : k < 128) (v : FVec Ideal (Rows 256) .f32) (c : Fin 128) :
    col (sortBlock (Scalar.muli (BitVec.ofNat 32 k) 256#32) v) c
      = Network.apply ((List.range 8).reverse.flatMap fun s => stage 8 s fun _ => decide (k % 2 = 0))
          (Network.apply (levelsNet 8 true 7) (col (numbered (Scalar.muli (BitVec.ofNat 32 k) 256#32) v) c)) := by
  have e : dirOf k 8 = fun _ => decide (k % 2 = 0) := by
    funext i
    have hi : i.val < 256 := i.isLt
    unfold dirOf
    refine decide_eq_decide.mpr ?_
    show (256 * k + i.val) / 256 % 2 = 0 ↔ _
    omega
  rw [← col_sortRounds hk c _ 7 (by decide), ← e]
  exact col_sortRound hk (by decide) c 8 (by decide) (by decide) _

end Cert.Proof.Net

end
-- ==== Proof.Tree.lean ====
/-
  Lists in a linear order: a tree of merges keeps the greatest entries, blocks written one after another, and a stable
  sort as a descending list.
-/
module

public import Idealize.ShloMosaic.Lib.SortNet.Sorts
public import Idealize.ShloMosaic.Lib.SortNet.Fold
public import Idealize.ShloMosaic.Lib.SortFacts
public import Mathlib.Data.List.OfFn
public import Mathlib.Data.List.Range

@[expose] public section

namespace Cert.Proof.Tree

open Idealize.ShloMosaic Idealize.ShloMosaic.SortNet

variable {α : Type} [LinearOrder α]

/-- Every other block descends, the ones between ascend. -/
def Good {n : ℕ} (B : ℕ → Fin n → α) (m : ℕ) : Prop :=
  ∀ k, k < m → (decide (k % 2 = 0) = true → Antitone (B k)) ∧ (decide (k % 2 = 0) = false → Monotone (B k))

/-- The first `m` blocks, one after another. -/
def listing {n : ℕ} (B : ℕ → Fin n → α) : ℕ → List α
  | 0 => []
  | m + 1 => listing B m ++ List.ofFn (B m)

/-- Two blocks merged in a direction: sorted, and holding the greatest entries of both. -/
theorem merged {p : ℕ} (b : Bool) (R C : Fin (2 ^ p) → α) (hR : Antitone R) (hC : Monotone C) (M : Fin (2 ^ p) → α)
    (hM : M = Network.apply ((List.range p).reverse.flatMap fun s => stage p s fun _ => b) fun j => max (R j) (C j)) :
    (b = true → Antitone M) ∧ (b = false → Monotone M) ∧ (List.ofFn M).Perm (topList (2 ^ p) (List.ofFn R ++ List.ofFn C)) := by
  have hd := foldStep p R C hR hC
  cases b
  · have e : M = Network.apply (mergeAscNet p) fun j => max (R j) (C j) := hM
    refine ⟨fun h => absurd h (by decide), fun _ => ?_, ?_⟩
    · rw [e]; exact mergeAscNet_apply_monotone p _ (descAsc_max R C hR hC)
    · obtain ⟨σ, hσ⟩ := Network.exists_perm (mergeAscNet p) fun j => max (R j) (C j)
      obtain ⟨τ, hτ⟩ := Network.exists_perm (mergeDescNet p) fun j => max (R j) (C j)
      rw [← hd.2, e, hσ, hτ]
      exact (Equiv.Perm.ofFn_comp_perm σ _).trans (Equiv.Perm.ofFn_comp_perm τ _).symm
  · have e : M = Network.apply (mergeDescNet p) fun j => max (R j) (C j) := hM
    refine ⟨fun _ => ?_, fun h => absurd h (by decide), ?_⟩
    · rw [e]; exact hd.1
    · rw [e, hd.2]

/-- A level of merges keeps the greatest entries of everything. -/
theorem topList_level {n : ℕ} (K : ℕ) (B M : ℕ → Fin n → α) (m : ℕ)
    (h : ∀ k, k < m → (List.ofFn (M k)).Perm (topList K (List.ofFn (B (2 * k)) ++ List.ofFn (B (2 * k + 1))))) :
    topList K (listing M m) = topList K (listing B (2 * m)) := by
  induction m with
  | zero => rfl
  | succ m ih =>
    have e : listing B (2 * (m + 1)) = listing B (2 * m) ++ (List.ofFn (B (2 * m)) ++ List.ofFn (B (2 * m + 1))) := by
      rw [← List.append_assoc]; rfl
    have e' : listing M (m + 1) = listing M m ++ List.ofFn (M m) := rfl
    rw [e, e', ← topList_append_topList_topList, ih fun k hk => h k (Nat.lt_succ_of_lt hk), topList_perm (h m (Nat.lt_succ_self m)),
      topList_topList, topList_append_topList_topList]

/-- Blocks rearranged one by one. -/
theorem listing_perm {n : ℕ} (B B' : ℕ → Fin n → α) (m : ℕ) (h : ∀ k, k < m → (List.ofFn (B k)).Perm (List.ofFn (B' k))) :
    (listing B m).Perm (listing B' m) := by
  induction m with
  | zero => exact List.Perm.refl _
  | succ m ih => exact (ih fun k hk => h k (Nat.lt_succ_of_lt hk)).append (h m (Nat.lt_succ_self m))

/-- Blocks cut from one row of entries, one after another, are that row. -/
theorem listing_cut {n : ℕ} (f : ℕ → α) (m : ℕ) : listing (fun k (j : Fin n) => f (n * k + j.val)) m = (List.range (n * m)).map f := by
  induction m with
  | zero => rfl
  | succ m ih =>
    have e : listing (fun k (j : Fin n) => f (n * k + j.val)) (m + 1)
        = listing (fun k (j : Fin n) => f (n * k + j.val)) m ++ List.ofFn fun j : Fin n => f (n * m + j.val) := rfl
    rw [e, ih, Nat.mul_succ, List.range_add, List.map_append]
    refine congrArg (_ ++ ·) ?_
    refine List.ext_getElem (by simp) fun i h1 h2 => ?_
    simp

/-- The stable sort of a strictly increasing list, each entry before those of lesser key: keys descend, and where two are equal the
    entries increase. -/
theorem stableSort_descends {ι : Type} [LinearOrder ι] (f : ι → α) (before : ι → ι → Bool) (hb : ∀ a b, before a b = true ↔ f b < f a)
    (l : List ι) (hl : l.Pairwise (· < ·)) : (stableSort before l).Pairwise fun a b => f b < f a ∨ f b = f a ∧ a < b := by
  have step : ∀ (a : ι) (s : List ι), (∀ b ∈ s, a < b) → s.Pairwise (fun a b => f b < f a ∨ f b = f a ∧ a < b) →
      (insertBefore before a s).Pairwise fun a b => f b < f a ∨ f b = f a ∧ a < b := by
    intro a s
    induction s with
    | nil => exact fun _ _ => List.pairwise_singleton _ _
    | cons b s ih =>
      intro hlt hs
      rw [List.pairwise_cons] at hs
      unfold insertBefore
      split
      · rename_i h
        refine List.pairwise_cons.mpr ⟨fun c hc => ?_, ih (fun c hc => hlt c (List.mem_cons_of_mem b hc)) hs.2⟩
        rcases List.mem_cons.mp ((perm_insertBefore before a s).mem_iff.mp hc) with rfl | hc'
        · exact Or.inl ((hb _ _).mp h)
        · exact hs.1 c hc'
      · rename_i h
        have hab : f b ≤ f a := not_lt.mp fun e => h ((hb b a).mpr e)
        refine List.pairwise_cons.mpr ⟨fun c hc => ?_, List.pairwise_cons.mpr hs⟩
        have hca : f c ≤ f a := by
          rcases List.mem_cons.mp hc with rfl | hc'
          · exact hab
          · rcases hs.1 c hc' with e | e
            · exact le_of_lt (lt_of_lt_of_le e hab)
            · exact (le_of_eq e.1).trans hab
        rcases lt_or_eq_of_le hca with e | e
        · exact Or.inl e
        · exact Or.inr ⟨e, hlt c hc⟩
  induction l with
  | nil => exact List.Pairwise.nil
  | cons a l ih =>
    rw [List.pairwise_cons] at hl
    unfold stableSort
    exact step a _ (fun b hb' => hl.1 b ((perm_stableSort before l).mem_iff.mp hb')) (ih hl.2)

/-- A descending rearrangement's first entries are the greatest. -/
theorem topList_of_descending {k : ℕ} {l s : List α} (hp : s.Perm l) (hs : s.Pairwise (· ≥ ·)) : topList k l = s.take k := by
  rw [← topList_perm hp]
  unfold topList
  rw [eq_of_perm_of_descending (List.perm_insertionSort (· ≥ ·) s) (List.pairwise_insertionSort (· ≥ ·) s) hs]

end Cert.Proof.Tree
-- ==== Proof.Top.lean ====
/-
  The block sorter and the merge tail at the extended reals: the row numbers they leave are those of the 256 greatest entries of
  each column, in order.
-/
module

public import proofs.«01_k».proof.Proof.Order
public import proofs.«01_k».proof.Proof.Range
public import proofs.«01_k».proof.Proof.Tree

@[expose] public section

set_option maxRecDepth 16384

noncomputable section

namespace Cert.Proof.Net

open Idealize.ShloMosaic hiding ix2 ix3 eq_ix2
open Idealize.ShloMosaic.ValueIdx
open Idealize.ShloMosaic.SortNet
open Cert.Proof.Tree

/-- A column's place at a row given by its number. -/
def place {N : ℕ} (p : Pair Ideal (Rows N)) (c : Fin 128) (x : ℕ) : Key :=
  if h : x < N then key (p.ent ⟨x, h⟩ c) else toLex (0, OrderDual.toDual 0)

/-- Block `k` of a column. -/
def blk {N : ℕ} (p : Pair Ideal (Rows N)) (c : Fin 128) (k : ℕ) (j : Fin (2 ^ 8)) : Key := place p c (256 * k + j.val)

/-- A row inside has its entry's place. -/
theorem place_eq {N : ℕ} (p : Pair Ideal (Rows N)) (c : Fin 128) (x : ℕ) (h : x < N) : place p c x = key (p.ent ⟨x, h⟩ c) := dif_pos h

/-- The fold takes the greater of two rows. -/
theorem col_fold (p : Pair Ideal (Rows 512)) (c : Fin 128) : col (fold p) c = fun j => max (blk p c 0 j) (blk p c 1 j) := by
  funext j
  have hj : j.val < 256 := j.isLt
  have e0 : blk p c 0 j = key (p.ent ⟨j.val, by omega⟩ c) := by
    unfold blk
    rw [Nat.mul_zero, Nat.zero_add]
    exact place_eq p c _ _
  have e1 : blk p c 1 j = key (p.ent ⟨256 + j.val, by omega⟩ c) := by
    unfold blk
    rw [Nat.mul_one]
    exact place_eq p c _ _
  rw [e0, e1]
  exact (congrArg key (fold_at p j c)).trans (key_pick_max _ _)

/-- A half's network is its fold merged. -/
theorem col_half (b : Bool) (p : Pair Ideal (Rows 512)) (c : Fin 128) (h0 : Antitone (blk p c 0)) (h1 : Monotone (blk p c 1)) :
    (b = true → Antitone (col (half (BitVec.ofBool b) p) c)) ∧ (b = false → Monotone (col (half (BitVec.ofBool b) p) c)) ∧
      (List.ofFn (col (half (BitVec.ofBool b) p) c)).Perm (topList (2 ^ 8) (List.ofFn (blk p c 0) ++ List.ofFn (blk p c 1))) := by
  refine merged b (blk p c 0) (blk p c 1) h0 h1 _ ?_
  unfold half
  rw [col_mergeBlock, col_fold]

/-- The blocks of a piece. -/
theorem blk_piece {n : ℕ} (hn : 0 < n) (p : Pair Ideal (Rows (512 * n))) (k : ℕ) (hk : k < n) (c : Fin 128) :
    blk (piece n hn p k) c 0 = blk p c (2 * k) ∧ blk (piece n hn p k) c 1 = blk p c (2 * k + 1) := by
  have e : ∀ (u : ℕ) (hu : u < 2), blk (piece n hn p k) c u = blk p c (2 * k + u) := fun u hu => by
    funext j
    have hj : j.val < 256 := j.isLt
    unfold blk
    have ea : 512 * k + (256 * u + j.val) = 256 * (2 * k + u) + j.val := by omega
    rw [place_eq _ c _ (by omega : 256 * u + j.val < 512), ← ea, place_eq p c _ (by omega)]
    exact congrArg key (piece_at hn p k hk ⟨256 * u + j.val, by omega⟩ c)
  exact ⟨e 0 (by decide), e 1 (by decide)⟩

/-- The blocks of a level. -/
theorem blk_level {n : ℕ} (hn : 2 ≤ n) (p : Pair Ideal (Rows (512 * n))) (k : ℕ) (hk : k < n) (c : Fin 128) :
    blk (level n hn p) c k = col (half (BitVec.ofBool (decide (k % 2 = 0))) (piece n (by omega) p k)) c := by
  funext j
  have hj : j.val < 256 := j.isLt
  have ed : dirBit k = BitVec.ofBool (decide (k % 2 = 0)) := by
    unfold dirBit
    rcases Nat.mod_two_eq_zero_or_one k with h | h
    · rw [decide_eq_true h, show (k + 1) % 2 = 1 by omega]; rfl
    · rw [decide_eq_false (by omega), show (k + 1) % 2 = 0 by omega]; rfl
  unfold blk
  rw [place_eq _ c _ (by omega : 256 * k + j.val < 256 * n), ← ed]
  exact congrArg key (level_at hn p k hk j c)

/-- A level of merges: the directions alternate again, and the greatest entries stay. -/
theorem level_top {n : ℕ} (hn : 2 ≤ n) (p : Pair Ideal (Rows (512 * n))) (c : Fin 128) (hp : Good (blk p c) (2 * n)) :
    Good (blk (level n hn p) c) n ∧ topList (2 ^ 8) (listing (blk (level n hn p) c) n) = topList (2 ^ 8) (listing (blk p c) (2 * n)) := by
  have h : ∀ k (hk : k < n), _ := fun k hk => col_half (decide (k % 2 = 0)) (piece n (by omega) p k) c
    (by rw [(blk_piece (by omega) p k hk c).1]; exact (hp (2 * k) (by omega)).1 (decide_eq_true (by omega)))
    (by rw [(blk_piece (by omega) p k hk c).2]; exact (hp (2 * k + 1) (by omega)).2 (decide_eq_false (by omega)))
  refine ⟨fun k hk => ?_, topList_level _ _ _ _ fun k hk => ?_⟩
  · rw [blk_level hn p k hk c]
    exact ⟨(h k hk).1, (h k hk).2.1⟩
  · rw [blk_level hn p k hk c, ← (blk_piece (by omega) p k hk c).1, ← (blk_piece (by omega) p k hk c).2]
    exact (h k hk).2.2

/-- The whole merge leaves the greatest entries of all the blocks, in order. -/
theorem mergeAll_top (p : Pair Ideal (Rows 32768)) (c : Fin 128) (hp : Good (blk p c) 128) :
    List.ofFn (col (mergeAll p) c) = topList (2 ^ 8) (listing (blk p c) 128) := by
  obtain ⟨g1, t1⟩ := level_top (n := 64) (by decide) p c hp
  obtain ⟨g2, t2⟩ := level_top (n := 32) (by decide) _ c g1
  obtain ⟨g3, t3⟩ := level_top (n := 16) (by decide) _ c g2
  obtain ⟨g4, t4⟩ := level_top (n := 8) (by decide) _ c g3
  obtain ⟨g5, t5⟩ := level_top (n := 4) (by decide) _ c g4
  obtain ⟨g6, t6⟩ := level_top (n := 2) (by decide) _ c g5
  have hh := col_half true _ c ((g6 0 (by decide)).1 (by decide)) ((g6 1 (by decide)).2 (by decide))
  refine Eq.trans ?_ (t6.trans (t5.trans (t4.trans (t3.trans (t2.trans t1)))))
  refine eq_of_perm_of_descending hh.2.2 ?_ (pairwise_topList _ _)
  exact List.pairwise_ofFn.mpr fun i j hij => hh.1 rfl (le_of_lt hij)

end Cert.Proof.Net

namespace Cert.Proof.Gather

open Cert.KernelIdeal Cert.KernelIdeal.Gen
open Idealize.ShloMosaic hiding ix2 ix3 eq_ix2
open Idealize.ShloMosaic.ValueIdx
open Idealize.ShloMosaic.SortNet
open Cert.Proof.Tree

/-- The place of a row of the table, its number beside its key. -/
def rowKey (h : S32768x128.Idx → Elt Ideal .f32) (c : Fin 128) (x : ℕ) : Net.Key :=
  Net.key (h (ix2 (Fin.ofNat 32768 x) c), BitVec.ofNat 32 x)

/-- A block's places before it is sorted. -/
theorem col_numbered (h : S32768x128.Idx → Elt Ideal .f32) (k : ℕ) (hk : k < 128) (c : Fin 128) :
    Net.col (Net.numbered (Scalar.muli (BitVec.ofNat 32 k) 256#32) (rowBlock h k)) c = fun j => rowKey h c (2 ^ 8 * k + j.val) := by
  funext j
  exact congrArg Net.key (Net.numbered_at k hk (rowBlock h k) j c)

/-- Block `k` of the sorted array is the block sorted. -/
theorem blk_sorted (h : S32768x128.Idx → Elt Ideal .f32) (k : ℕ) (hk : k < 128) (c : Fin 128) :
    Net.blk (sortedP h) c k = Net.col (Net.sortBlock (Scalar.muli (BitVec.ofNat 32 k) 256#32) (rowBlock h k)) c := by
  funext j
  have hj : j.val < 256 := j.isLt
  unfold Net.blk
  rw [Net.place_eq _ c _ (by omega : 256 * k + j.val < 32768)]
  exact congrArg Net.key (sortedP_at h k hk j c)

/-- The block sorter leaves every block sorted, in directions that alternate. -/
theorem sorted_good (h : S32768x128.Idx → Elt Ideal .f32) (c : Fin 128) : Good (Net.blk (sortedP h) c) 128 := fun k hk => by
  rw [blk_sorted h k hk c, Net.col_sortBlock hk]
  exact Net.merge_sorts _ _ (Net.descAsc_levels _)

/-- The block sorter keeps each block's entries. -/
theorem sorted_perm (h : S32768x128.Idx → Elt Ideal .f32) (c : Fin 128) :
    (listing (Net.blk (sortedP h) c) 128).Perm ((List.range 32768).map (rowKey h c)) := by
  have e := listing_cut (n := 2 ^ 8) (rowKey h c) 128
  refine (listing_perm _ (fun k (j : Fin (2 ^ 8)) => rowKey h c (2 ^ 8 * k + j.val)) 128 fun k hk => ?_).trans (.of_eq e)
  rw [blk_sorted h k hk c, Net.col_sortBlock hk, col_numbered h k hk c, ← Network.apply_append]
  obtain ⟨σ, hσ⟩ := Network.exists_perm (levelsNet 8 true 7 ++ (List.range 8).reverse.flatMap fun s => stage 8 s fun _ => decide (k % 2 = 0))
    fun j : Fin (2 ^ 8) => rowKey h c (2 ^ 8 * k + j.val)
  rw [hσ]
  exact Equiv.Perm.ofFn_comp_perm σ _

/-- What the merge leaves of a column: the greatest 256 of its rows, in order. -/
theorem mergeAll_rows (h : S32768x128.Idx → Elt Ideal .f32) (c : Fin 128) :
    List.ofFn (Net.col (Net.mergeAll (sortedP h)) c) = topList (2 ^ 8) ((List.range 32768).map (rowKey h c)) :=
  (Net.mergeAll_top _ c (sorted_good h c)).trans (topList_perm (sorted_perm h c))

/-- The row numbers left are those at the head of any list of all the rows along which the places descend. -/
theorem topI_of_descending (h : S32768x128.Idx → Elt Ideal .f32) (c : Fin 128) (L : List (Fin 32768)) (hL : L.Perm (List.finRange 32768))
    (hs : L.Pairwise fun a b => rowKey h c b.val ≤ rowKey h c a.val) (r : Fin 256) (hr : r.val < L.length) :
    topI h (ix2 r c) = BitVec.ofNat 32 (L[r.val]).val := by
  have hp : (L.map fun i => rowKey h c i.val).Perm ((List.range 32768).map (rowKey h c)) := by
    refine (hL.map _).trans (.of_eq ?_)
    rw [← List.map_coe_finRange_eq_range, List.map_map]
    rfl
  have e := (mergeAll_rows h c).trans (topList_of_descending hp (List.pairwise_map.mpr hs))
  have hlen : r.val < (List.ofFn (Net.col (Net.mergeAll (sortedP h)) c)).length := by rw [List.length_ofFn]; exact r.isLt
  have e' : (List.ofFn (Net.col (Net.mergeAll (sortedP h)) c))[r.val]'hlen = rowKey h c (L[r.val]).val := by
    rw [List.getElem_of_eq e hlen, List.getElem_take, List.getElem_map]
  rw [List.getElem_ofFn] at e'
  rw [topI_eq]
  exact congrArg Prod.snd (Net.key_injective e')

end Cert.Proof.Gather

end
-- ==== Proof.Ref.lean ====
/-
  The reference: its stable sort of each column, read as a list of row numbers, and its gather at an index.
-/
module

public import proofs.«01_k».proof.Proof.Gen.ReferenceIdeal
public import proofs.«01_k».proof.Proof.Gen.ReferenceIdeal.Run
public import Idealize.ShloMosaic.Lib.ValueIdxCore
public import Idealize.ShloMosaic.Lib.Routing.OpsPair
public import Idealize.ShloMosaic.Lib.SortFacts
public import Idealize.ShloMosaic.Lib.Pointwise.Select
public import Idealize.ShloMosaic.PureOps.Ideal
public import proofs.«01_k».proof.Proof.Tree

@[expose] public section

set_option maxRecDepth 16384

noncomputable section

namespace Cert.Proof.Ref

open Cert.ReferenceIdeal Cert.ReferenceIdeal.Gen Idealize.ShloMosaic

variable {α : Type}

/-- The dimensions of the reference's gather. -/
abbrev gd := gather_S32768x128_S256x128x1_S256x128x128_2_0_n_n_0_2_1128

/-- Where the gather reads its row's number for an element of the result. -/
theorem siIdx_eq (a : Fin 256) (b c : Fin 128) (h : 0 < gd.startIndexMap.length) :
    gd.siIdx (ValueIdx.ix3 a b c) ⟨0, h⟩ = ValueIdx.ix3 a b (0 : Fin 1) := by
  funext x
  match x with
  | ⟨0, _⟩ => rfl
  | ⟨1, _⟩ => rfl
  | ⟨2, _⟩ => rfl

/-- The gather of rows at an index whose row's number is in range. -/
theorem gather_at (x : S32768x128.Idx → α) (idx : S256x128x1.Idx → BitVec 32) (a : Fin 256) (b c : Fin 128) (k : Fin 32768)
    (h : BitVec.toNat (idx (ValueIdx.ix3 a b (0 : Fin 1))) = k.val) :
    Host.gather gd x idx (ValueIdx.ix3 a b c) = x (ValueIdx.ix2 k c) := by
  refine congrArg x (funext fun t => Fin.ext ?_)
  match t with
  | ⟨0, _⟩ =>
    have hs : gd.start (ValueIdx.ix3 a b c) idx 0 = min (BitVec.toInt (idx (ValueIdx.ix3 a b (0 : Fin 1)))).toNat 32767 := by
      unfold GatherDims.start
      rw [dif_pos (show (0 : Fin 2) ∈ gd.startIndexMap from by decide)]
      exact congrArg (fun i => min (BitVec.toInt (idx i)).toNat 32767) (siIdx_eq a b c (by decide))
    show gd.start (ValueIdx.ix3 a b c) idx 0 + gd.batchCoord (ValueIdx.ix3 a b c) 0 + gd.offCoord (ValueIdx.ix3 a b c) 0 = k.val
    rw [gd.batchCoord_eq_zero _ _ (by decide), gd.offCoord_eq_zero _ _ (by decide), hs, BitVec.toInt_eq_toNat_cond]
    have := k.isLt
    rw [if_pos (by rw [h]; omega), h]
    omega
  | ⟨1, _⟩ =>
    show gd.start (ValueIdx.ix3 a b c) idx 1 + gd.batchCoord (ValueIdx.ix3 a b c) 1 + gd.offCoord (ValueIdx.ix3 a b c) 1 = c.val
    rw [gd.batchCoord_eq_zero _ _ (by decide)]
    unfold GatherDims.start
    rw [dif_neg (by decide)]
    simp only [Nat.zero_add]
    rfl

/-- The row number the reference gathers by: a negative one counts from the end; one in range is itself. -/
theorem wrapped (ix : S256x128.Idx → BitVec 32) (a : Fin 256) (b : Fin 128) (h : BitVec.toNat (ix (ValueIdx.ix2 a b)) < 32768) :
    (broadcastInDim S256x128x1 ![0, 1] bcast_S256x128_S256x128x1_0_1 (select (cmpi .slt ix (broadcastInDim S256x128 ![] bcast_S_S256x128 (constantI S_ 32 0#32)))
      (addi ix (broadcastInDim S256x128 ![] bcast_S_S256x128 (constantI S_ 32 32768#32))) ix)) (ValueIdx.ix3 a b (0 : Fin 1)) = ix (ValueIdx.ix2 a b) := by
  have e : ∀ i : S256x128.Idx, i = ValueIdx.ix2 a b →
      Scalar.select (IntOp.cmpi .slt (ix i) 0#32) (IntOp.addi (ix i) 32768#32) (ix i) = ix (ValueIdx.ix2 a b) := by
    rintro i rfl
    exact Routing.wrap_of_lt _ _ (by omega)
  refine e _ (funext fun t => ?_)
  match t with
  | ⟨0, _⟩ => rfl
  | ⟨1, _⟩ => rfl

/-! ## The sort -/

/-- The comparator at the extended reals: a zero is replaced by zero and no key is a NaN, so it compares the keys. -/
theorem comparator_eq (a b : Ideal .f32 × BitVec 32) :
    comparator_f32_i32_d0 (F := Ideal) a b = BitVec.ofBool (decide ((a.1 : EReal) < b.1)) := by
  have hz : ∀ x : Ideal .f32, Scalar.select (FloatOps.cmpf .oeq x (FloatOps.ofBits .f32 0x00000000#32)) (FloatOps.ofBits .f32 0x00000000#32) x = x := by
    intro x
    have e : FloatOps.cmpf .oeq x (FloatOps.ofBits .f32 0x00000000#32)
        = BitVec.ofBool (decide ((x : EReal) = (FloatOps.ofBits .f32 0x00000000#32 : Ideal .f32))) := rfl
    rw [e]
    by_cases h : (x : EReal) = (FloatOps.ofBits .f32 0x00000000#32 : Ideal .f32)
    · rw [decide_eq_true h]; exact h.symm
    · rw [decide_eq_false h]; rfl
  have hn : ∀ (x y z : Ideal .f32), Scalar.select (FloatOps.cmpf .une x x) y z = z := by
    intro x y z
    have e : FloatOps.cmpf .une x x = BitVec.ofBool (decide ((x : EReal) ≠ x)) := rfl
    rw [e, decide_eq_false (not_not.mpr rfl)]
    rfl
  unfold comparator_f32_i32_d0
  simp only [hz, hn]
  rfl

/-- Row `a` of column `c` comes before row `b` in the reference's sort: its key is greater. -/
def earlier (h : S32768x128.Idx → EReal) (c : Fin 128) (a b : Fin 32768) : Bool :=
  decide (h (ValueIdx.ix2 b c) < h (ValueIdx.ix2 a c))

/-- The rows of a column in the reference's order. -/
def order (h : S32768x128.Idx → EReal) (c : Fin 128) : List (Fin 32768) := sortPositions 32768 (earlier h c)

/-- Every row is there once. -/
theorem order_perm (h : S32768x128.Idx → EReal) (c : Fin 128) : (order h c).Perm (List.finRange 32768) := perm_sortPositions _ _

/-- Every row is there. -/
theorem order_length (h : S32768x128.Idx → EReal) (c : Fin 128) : (order h c).length = 32768 := length_sortPositions _ _

/-- The keys descend along the order; rows of equal keys increase. -/
theorem order_descends (h : S32768x128.Idx → EReal) (c : Fin 128) :
    (order h c).Pairwise fun a b => h (ValueIdx.ix2 b c) < h (ValueIdx.ix2 a c) ∨ h (ValueIdx.ix2 b c) = h (ValueIdx.ix2 a c) ∧ a < b :=
  Tree.stableSort_descends (fun a => h (ValueIdx.ix2 a c)) (earlier h c) (fun _ _ => decide_eq_true_iff) _ (List.pairwise_lt_finRange _)

/-- A position of a column. -/
theorem along_rows (r : Fin 32768) (c : Fin 128) (k : Fin 32768) (hd : 0 < S32768x128.rank) :
    (ValueIdx.ix2 r c : S32768x128.Idx).along ⟨0, hd⟩ k = ValueIdx.ix2 k c := by
  funext t
  match t with
  | ⟨0, _⟩ => rfl
  | ⟨1, _⟩ => rfl

/-- What the reference's sort leaves of the row numbers: the order. -/
theorem argsort_at (h : S32768x128.Idx → EReal) (r : Fin 32768) (c : Fin 128) (hr : r.val < (order h c).length) :
    (Host.sort2 S32768x128 0 (comparator_f32_i32_d0 (F := Ideal)) (Host.negf (F := Ideal) (φ := .f32) h) (iotaInDim S32768x128 32 0)).2 (ValueIdx.ix2 r c)
      = BitVec.ofNat 32 ((order h c)[r.val]).val := by
  have hd : 0 < S32768x128.rank := Nat.zero_lt_two
  have hb : (fun a b : Fin 32768 => comparator_f32_i32_d0 (F := Ideal)
      (Host.negf (F := Ideal) (φ := .f32) h ((ValueIdx.ix2 r c : S32768x128.Idx).along ⟨0, hd⟩ a), iotaInDim S32768x128 32 0 ((ValueIdx.ix2 r c : S32768x128.Idx).along ⟨0, hd⟩ a))
      (Host.negf (F := Ideal) (φ := .f32) h ((ValueIdx.ix2 r c : S32768x128.Idx).along ⟨0, hd⟩ b), iotaInDim S32768x128 32 0 ((ValueIdx.ix2 r c : S32768x128.Idx).along ⟨0, hd⟩ b)) == 1#1)
      = earlier h c := by
    funext a b
    rw [comparator_eq, along_rows, along_rows]
    have e : (Host.negf (F := Ideal) (φ := .f32) h (ValueIdx.ix2 a c) : EReal) < Host.negf (F := Ideal) (φ := .f32) h (ValueIdx.ix2 b c)
        ↔ h (ValueIdx.ix2 b c) < h (ValueIdx.ix2 a c) := EReal.neg_lt_neg_iff
    unfold earlier
    rw [decide_eq_decide.mpr e]
    cases decide (h (ValueIdx.ix2 b c) < h (ValueIdx.ix2 a c)) <;> rfl
  unfold Host.sort2
  rw [dif_pos hd]
  have es : sortedFrom (n := 32768) (earlier h c) r = (order h c)[r.val] := rfl
  refine Eq.trans (congrArg (fun k : Fin 32768 => iotaInDim S32768x128 32 0 ((ValueIdx.ix2 r c : S32768x128.Idx).along ⟨0, hd⟩ k))
    ((congrArg (fun f => sortedFrom (n := 32768) f r) hb).trans es)) ?_
  show iotaInDim S32768x128 32 0 ((ValueIdx.ix2 r c : S32768x128.Idx).along ⟨0, hd⟩ _) = _
  rw [along_rows]
  rfl

/-- The first 256 rows of the sort's row numbers. -/
theorem head_at (x : S32768x128.Idx → α) (a : Fin 256) (b : Fin 128) :
    extractStridedSlice S256x128 ![0, 0] x slices_S32768x128_S256x128_0_0 (ValueIdx.ix2 a b) = x (ValueIdx.ix2 ⟨a.val, by omega⟩ b) := by
  refine congrArg x (funext fun t => Fin.ext ?_)
  match t with
  | ⟨0, _⟩ => exact Nat.zero_add _
  | ⟨1, _⟩ => exact Nat.zero_add _

end Cert.Proof.Ref

end
-- ==== Proof.lean ====
/-
  The certificate: the two runs of the kernel, the reference's run, and their equality.
-/
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Range
public import proofs.«01_k».proof.Proof.Top
public import proofs.«01_k».proof.Proof.Ref
public import Idealize.ShloMosaic.Adequacy
public import Idealize.ShloMosaic.Init
public import Idealize.ShloMosaic.Lib.Tactic

@[expose] public section

set_option maxRecDepth 16384

noncomputable section

namespace Cert.Proof

open Idealize.ShloMosaic Idealize.SL.Sem
open Cert.Proof.Gather Cert.Proof.Ref

/-! ## The frames -/

/-- The kernel as it is and the kernel for exact values are one text, so at bits they have the same bodies. -/
theorem defs_eq : Cert.Kernel.defs (F := Bits) = Cert.KernelIdeal.defs (F := Bits) := by sl_kernel_rfl

/-- The kernel as it is, at bits: it runs, its argument unchanged, every semaphore at zero. -/
theorem frame_kernel : Cert.quiescent_Kernel := fun m ρ _ => by
  rw [defs_eq]
  exact (θ_run Cert.KernelIdeal.defs _ _).mono (fun _ h => ⟨fun c => (h.1 c).1, h.2⟩) (run_main (F := Bits) m ρ)

/-- The kernel at exact values: the same. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference runs, its argument unchanged; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-! ## The values -/

/-- What the kernel leaves, at an index: the row of the table the index array names there. -/
theorem out_at (h : Cert.KernelIdeal.S32768x128.Idx → EReal) (ix : Cert.KernelIdeal.S256x128.Idx → BitVec 32) (a : Fin 256) (b c : Fin 128)
    (k : Fin 32768) (hk : (ix (ValueIdx.ix2 a b)).toNat = k.val) :
    out (F := Ideal) h ix (ValueIdx.ix3 a b c) = h (ValueIdx.ix2 k c) := by
  have ha := a.isLt
  have hb := b.isLt
  have hrow : 128 * a.val + b.val < 32768 := by omega
  unfold out
  rw [shapeCast_apply _ _ (ValueIdx.ix3 a b c) (ValueIdx.ix2 (⟨128 * a.val + b.val, hrow⟩ : Fin 32768) c)
    (by
      rw [Shape.rowMajor_val_two, Shape.rowMajor_val_three]
      show (128 * a.val + b.val) * 128 + c.val = (a.val * 128 + b.val) * 128 + c.val
      omega)]
  unfold gat
  refine congrArg h ?_
  have e : ∀ i : Cert.KernelIdeal.S256x128.Idx, i = ValueIdx.ix2 a b → Fin.ofNat 32768 (BitVec.toNat (ix i)) = k := by
    rintro i rfl
    exact Fin.ext (by rw [hk]; exact Nat.mod_eq_of_lt k.isLt)
  refine congrArg (fun r : Fin 32768 => (ValueIdx.ix2 r c : Cert.KernelIdeal.S32768x128.Idx)) (e _ ?_)
  funext t
  match t with
  | ⟨0, _⟩ => exact Fin.ext (show (128 * a.val + b.val) / 128 = a.val by omega)
  | ⟨1, _⟩ => exact Fin.ext (show (128 * a.val + b.val) % 128 = b.val by omega)

/-- The number of a row of the table, as a signed word. -/
theorem toInt_row (a : Fin 32768) : (BitVec.ofNat 32 a.val).toInt = a.val := by
  have ha := a.isLt
  rw [BitVec.toInt_eq_toNat_cond, BitVec.toNat_ofNat, Nat.mod_eq_of_lt (by omega), if_pos (by omega)]

/-- Along the reference's order the kernel's places descend. -/
theorem places_descend (h : Cert.KernelIdeal.S32768x128.Idx → EReal) (c : Fin 128) :
    (order h c).Pairwise fun a b => rowKey h c b.val ≤ rowKey h c a.val := by
  have e : ∀ a : Fin 32768, rowKey h c a.val = toLex (h (ValueIdx.ix2 a c), OrderDual.toDual (a.val : ℤ)) := fun a => by
    unfold rowKey Net.key
    rw [toInt_row]
    refine congrArg (fun k : Fin 32768 => toLex (h (ValueIdx.ix2 k c), OrderDual.toDual (a.val : ℤ))) (Fin.ext ?_)
    exact Nat.mod_eq_of_lt a.isLt
  refine (order_descends h c).imp fun {a b} hab => ?_
  rw [e a, e b, Prod.Lex.toLex_le_toLex]
  rcases hab with hlt | ⟨heq, hlt⟩
  · exact Or.inl hlt
  · exact Or.inr ⟨heq, OrderDual.toDual_le_toDual.mpr (Int.ofNat_le.mpr (le_of_lt hlt))⟩

/-- The kernel's row numbers are the first 256 of the reference's sort. -/
theorem rows_eq (h : Cert.KernelIdeal.S32768x128.Idx → EReal) (a : Fin 256) (b : Fin 128) :
    extractStridedSlice Cert.ReferenceIdeal.S256x128 ![0, 0]
        (Host.sort2 Cert.ReferenceIdeal.S32768x128 0 (Cert.ReferenceIdeal.comparator_f32_i32_d0 (F := Ideal)) (Host.negf (F := Ideal) (φ := .f32) h)
          (iotaInDim Cert.ReferenceIdeal.S32768x128 32 0)).2
        Cert.ReferenceIdeal.Facts₀.slices_S32768x128_S256x128_0_0 (ValueIdx.ix2 a b)
      = topI (F := Ideal) h (ValueIdx.ix2 a b) := by
  have hl : a.val < (order h b).length := by rw [order_length]; omega
  rw [head_at, argsort_at h ⟨a.val, by omega⟩ b hl, topI_of_descending h b (order h b) (order_perm h b) (places_descend h b) a hl]

/-- The kernel and the reference end with the same rows. -/
theorem algebraic : Cert.algebraic_KernelIdeal_ReferenceIdeal := by
  intro m ρ m' ρ' _ hagree
  refine ⟨fun c => out (F := Ideal) (Hm m c) (Im m c),
    (θ_run Cert.KernelIdeal.defs _ _).mono (fun _ h c => ⟨(h.1 c).2, (h.1 c).1⟩) (run_main (F := Ideal) m ρ), ?_⟩
  refine (θ_run Cert.ReferenceIdeal.defs _ _).mono (fun _ h c => ⟨(h c).1.trans ?_, (h c).2⟩) (Cert.ReferenceIdeal.Value.run (F := Ideal) m' ρ')
  rw [hagree c]
  funext i
  obtain ⟨a, b, y, rfl⟩ : ∃ (a : Fin 256) (b y : Fin 128), i = ValueIdx.ix3 a b y :=
    ⟨i 0, i 1, i 2, by funext t; match t with | ⟨0, _⟩ => rfl | ⟨1, _⟩ => rfl | ⟨2, _⟩ => rfl⟩
  have e := rows_eq (Hm m c) a b
  have hlt : (Im (F := Ideal) m c (ValueIdx.ix2 a b)).toNat < 32768 := ixOK m c (ValueIdx.ix2 a b)
  refine (gather_at _ _ a b y ⟨_, hlt⟩ ?_).trans (out_at _ _ a b y ⟨_, hlt⟩ rfl).symm
  exact congrArg BitVec.toNat ((wrapped _ a b ((congrArg BitVec.toNat e).trans_lt hlt)).trans e)

/-- Everything the certificate claims. -/
theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
